-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x7168 : Shape := ⟨3, ![128, 1, 7168]⟩
abbrev S7168x2048x3 : Shape := ⟨3, ![7168, 2048, 3]⟩
abbrev S8192 : Shape := ⟨1, ![8192]⟩
abbrev S3x7168x2048 : Shape := ⟨3, ![3, 7168, 2048]⟩
abbrev S2048x4 : Shape := ⟨2, ![2048, 4]⟩
abbrev S4x2048 : Shape := ⟨2, ![4, 2048]⟩
abbrev S4x1x2048 : Shape := ⟨3, ![4, 1, 2048]⟩
abbrev S128x7168 : Shape := ⟨2, ![128, 7168]⟩
abbrev S128x8192 : Shape := ⟨2, ![128, 8192]⟩
abbrev S3x7168x128 : Shape := ⟨3, ![3, 7168, 128]⟩
abbrev S4x1x128 : Shape := ⟨3, ![4, 1, 128]⟩
abbrev S128x512 : Shape := ⟨2, ![128, 512]⟩
abbrev S4x128x128 : Shape := ⟨3, ![4, 128, 128]⟩
abbrev S1x1024x128 : Shape := ⟨3, ![1, 1024, 128]⟩
abbrev S1024x128 : Shape := ⟨2, ![1024, 128]⟩
abbrev S256x128 : Shape := ⟨2, ![256, 128]⟩
abbrev S128x1024 : Shape := ⟨2, ![128, 1024]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128x128x1 : Shape := ⟨3, ![128, 128, 1]⟩

abbrev nBuf : Space → Nat
  | .hbm => 9
  | .vmem => 8
  | .smem => 0
  | _ => 0

abbrev bufTy : (tb : Table) → Fin (tcTables nBuf tb) → BufTy
  | .hbm, ⟨0, _⟩ => ⟨S128x1x7168, .bf16⟩
  | .hbm, ⟨1, _⟩ => ⟨S7168x2048x3, .i8⟩
  | .hbm, ⟨2, _⟩ => ⟨S8192, .f32⟩
  | .hbm, ⟨3, _⟩ => ⟨S3x7168x2048, .i8⟩
  | .hbm, ⟨4, _⟩ => ⟨S2048x4, .f32⟩
  | .hbm, ⟨5, _⟩ => ⟨S4x2048, .f32⟩
  | .hbm, ⟨6, _⟩ => ⟨S4x1x2048, .f32⟩
  | .hbm, ⟨7, _⟩ => ⟨S128x7168, .bf16⟩
  | .hbm, ⟨8, _⟩ => ⟨S128x8192, .bf16⟩
  | .local _ .vmem, ⟨0, _⟩ => ⟨S128x7168, .bf16⟩
  | .local _ .vmem, ⟨1, _⟩ => ⟨S3x7168x128, .i8⟩
  | .local _ .vmem, ⟨2, _⟩ => ⟨S3x7168x128, .i8⟩
  | .local _ .vmem, ⟨3, _⟩ => ⟨S4x1x128, .f32⟩
  | .local _ .vmem, ⟨4, _⟩ => ⟨S4x1x128, .f32⟩
  | .local _ .vmem, ⟨5, _⟩ => ⟨S128x512, .bf16⟩
  | .local _ .vmem, ⟨6, _⟩ => ⟨S128x512, .bf16⟩
  | .local _ .vmem, ⟨7, _⟩ => ⟨S4x128x128, .f32⟩
  | _, _ => ⟨S128x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c7_i32 : BitVec 32 := 7#32
  let v4 : BitVec 32 := Scalar.addi c0_i32 c7_i32
  let c1_i32 : BitVec 32 := 1#32
  ⟨c0_i32, v4, c1_i32⟩
def k0_off1 (k0_t1 : Fin k0_t1_loop.trips) : Fin 3 → Nat :=
  let c0_79 : Index := 0#32
  let c0_i32_78 : BitVec 32 := 0#32
  let c0_i32 : BitVec 32 := 0#32
  let c1_i32 : BitVec 32 := 1#32
  let arg6 : BitVec 32 := Scf.iv c0_i32 c1_i32 k0_t1
  let c1_i32_77 : BitVec 32 := 1#32
  let v234 : BitVec 32 := Scalar.muli arg6 c1_i32_77
  let v235 : BitVec 32 := Scalar.addi c0_i32_78 v234
  let c1024_i32 : BitVec 32 := 1024#32
  let v236 : BitVec 32 := Scalar.muli v235 c1024_i32
  let v237 : Index := Scalar.indexCast v236
  let c0_80 : Index := 0#32
  ![0, v237.toNat, 0]
def k0_off2 (k0_t1 : Fin k0_t1_loop.trips) : Fin 3 → Nat :=
  let c1_81 : Index := 1#32
  let c0_i32_78 : BitVec 32 := 0#32
  let c0_i32 : BitVec 32 := 0#32
  let c1_i32 : BitVec 32 := 1#32
  let arg6 : BitVec 32 := Scf.iv c0_i32 c1_i32 k0_t1
  let c1_i32_77 : BitVec 32 := 1#32
  let v234 : BitVec 32 := Scalar.muli arg6 c1_i32_77
  let v235 : BitVec 32 := Scalar.addi c0_i32_78 v234
  let c1024_i32 : BitVec 32 := 1024#32
  let v236 : BitVec 32 := Scalar.muli v235 c1024_i32
  let v241 : Index := Scalar.indexCast v236
  let c0_82 : Index := 0#32
  ![1, v241.toNat, 0]
def k0_off3 (k0_t1 : Fin k0_t1_loop.trips) : Fin 3 → Nat :=
  let c2_83 : Index := 2#32
  let c0_i32_78 : BitVec 32 := 0#32
  let c0_i32 : BitVec 32 := 0#32
  let c1_i32 : BitVec 32 := 1#32
  let arg6 : BitVec 32 := Scf.iv c0_i32 c1_i32 k0_t1
  let c1_i32_77 : BitVec 32 := 1#32
  let v234 : BitVec 32 := Scalar.muli arg6 c1_i32_77
  let v235 : BitVec 32 := Scalar.addi c0_i32_78 v234
  let c1024_i32 : BitVec 32 := 1024#32
  let v236 : BitVec 32 := Scalar.muli v235 c1024_i32
  let v245 : Index := Scalar.indexCast v236
  let c0_84 : Index := 0#32
  ![2, v245.toNat, 0]
def k0_off4 (k0_t1 : Fin k0_t1_loop.trips) : Fin 2 → Nat :=
  let c0_85 : Index := 0#32
  let c0_i32_78 : BitVec 32 := 0#32
  let c0_i32 : BitVec 32 := 0#32
  let c1_i32 : BitVec 32 := 1#32
  let arg6 : BitVec 32 := Scf.iv c0_i32 c1_i32 k0_t1
  let c1_i32_77 : BitVec 32 := 1#32
  let v234 : BitVec 32 := Scalar.muli arg6 c1_i32_77
  let v235 : BitVec 32 := Scalar.addi c0_i32_78 v234
  let c1024_i32 : BitVec 32 := 1024#32
  let v236 : BitVec 32 := Scalar.muli v235 c1024_i32
  let v249 : Index := Scalar.indexCast v236
  ![0, v249.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x7168x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x7168 : Shape := ⟨3, ![128, 1, 7168]⟩
abbrev S7168x2048x3 : Shape := ⟨3, ![7168, 2048, 3]⟩
abbrev S8192 : Shape := ⟨1, ![8192]⟩
abbrev S7168x2048x1 : Shape := ⟨3, ![7168, 2048, 1]⟩
abbrev S7168x2048 : Shape := ⟨2, ![7168, 2048]⟩
abbrev S_ : Shape := ⟨0, ![]⟩
abbrev S128x1x2048 : Shape := ⟨3, ![128, 1, 2048]⟩
abbrev S128x1x2048x1 : Shape := ⟨4, ![128, 1, 2048, 1]⟩
abbrev S128x1x2048x4 : Shape := ⟨4, ![128, 1, 2048, 4]⟩
abbrev S128x1x8192 : Shape := ⟨3, ![128, 1, 8192]⟩
abbrev S1x1x8192 : Shape := ⟨3, ![1, 1, 8192]⟩
abbrev S128x8192 : Shape := ⟨2, ![128, 8192]⟩

abbrev nBuf : Space → Nat
  | .hbm => 225
  | .vmem => 0
  | .smem => 0
  | _ => 0

abbrev hbmTy0_0 (i : Nat) : BufTy := match i % 128 with
  | 0 => ⟨S128x1x7168, .bf16⟩
  | 1 => ⟨S7168x2048x3, .i8⟩
  | 2 => ⟨S8192, .f32⟩
  | 3 => ⟨S7168x2048x3, .i32⟩
  | 4 => ⟨S7168x2048x1, .i32⟩
  | 5 => ⟨S7168x2048, .i32⟩
  | 6 => ⟨S7168x2048x1, .i32⟩
  | 7 => ⟨S7168x2048, .i32⟩
  | 8 => ⟨S_, .i32⟩
  | 9 => ⟨S7168x2048, .i32⟩
  | 10 => ⟨S7168x2048, .i32⟩
  | 11 => ⟨S7168x2048, .i32⟩
  | 12 => ⟨S7168x2048x1, .i32⟩
  | 13 => ⟨S7168x2048, .i32⟩
  | 14 => ⟨S_, .i32⟩
  | 15 => ⟨S7168x2048, .i32⟩
  | 16 => ⟨S7168x2048, .i32⟩
  | 17 => ⟨S7168x2048, .i32⟩
  | 18 => ⟨S_, .i32⟩
  | 19 => ⟨S7168x2048, .i32⟩
  | 20 => ⟨S7168x2048, .i32⟩
  | 21 => ⟨S_, .i32⟩
  | 22 => ⟨S7168x2048, .i32⟩
  | 23 => ⟨S7168x2048, .i32⟩
  | 24 => ⟨S_, .i32⟩
  | 25 => ⟨S7168x2048, .i32⟩
  | 26 => ⟨S7168x2048, .i32⟩
  | 27 => ⟨S7168x2048, .i32⟩
  | 28 => ⟨S_, .i32⟩
  | 29 => ⟨S7168x2048, .i32⟩
  | 30 => ⟨S7168x2048, .i32⟩
  | 31 => ⟨S_, .i32⟩
  | 32 => ⟨S7168x2048, .i32⟩
  | 33 => ⟨S7168x2048, .i32⟩
  | 34 => ⟨S7168x2048, .i32⟩
  | 35 => ⟨S_, .i32⟩
  | 36 => ⟨S7168x2048, .i32⟩
  | 37 => ⟨S7168x2048, .i32⟩
  | 38 => ⟨S7168x2048, .f32⟩
  | 39 => ⟨S_, .i32⟩
  | 40 => ⟨S7168x2048, .i32⟩
  | 41 => ⟨S7168x2048, .i1⟩
  | 42 => ⟨S_, .f32⟩
  | 43 => ⟨S7168x2048, .f32⟩
  | 44 => ⟨S7168x2048, .f32⟩
  | 45 => ⟨S_, .f32⟩
  | 46 => ⟨S7168x2048, .f32⟩
  | 47 => ⟨S7168x2048, .f32⟩
  | 48 => ⟨S_, .i32⟩
  | 49 => ⟨S7168x2048, .i32⟩
  | 50 => ⟨S7168x2048, .i32⟩
  | 51 => ⟨S7168x2048, .f32⟩
  | 52 => ⟨S7168x2048, .f32⟩
  | 53 => ⟨S_, .f32⟩
  | 54 => ⟨S7168x2048, .f32⟩
  | 55 => ⟨S7168x2048, .f32⟩
  | 56 => ⟨S7168x2048, .f32⟩
  | 57 => ⟨S_, .i32⟩
  | 58 => ⟨S7168x2048, .i32⟩
  | 59 => ⟨S7168x2048, .i32⟩
  | 60 => ⟨S_, .i32⟩
  | 61 => ⟨S7168x2048, .i32⟩
  | 62 => ⟨S7168x2048, .i32⟩
  | 63 => ⟨S7168x2048, .f32⟩
  | 64 => ⟨S7168x2048, .f32⟩
  | 65 => ⟨S7168x2048, .bf16⟩
  | 66 => ⟨S128x1x2048, .f32⟩
  | 67 => ⟨S_, .i32⟩
  | 68 => ⟨S7168x2048, .i32⟩
  | 69 => ⟨S7168x2048, .i32⟩
  | 70 => ⟨S_, .i32⟩
  | 71 => ⟨S7168x2048, .i32⟩
  | 72 => ⟨S7168x2048, .i32⟩
  | 73 => ⟨S_, .i32⟩
  | 74 => ⟨S7168x2048, .i32⟩
  | 75 => ⟨S7168x2048, .i32⟩
  | 76 => ⟨S7168x2048, .i32⟩
  | 77 => ⟨S_, .i32⟩
  | 78 => ⟨S7168x2048, .i32⟩
  | 79 => ⟨S7168x2048, .i32⟩
  | 80 => ⟨S_, .i32⟩
  | 81 => ⟨S7168x2048, .i32⟩
  | 82 => ⟨S7168x2048, .i32⟩
  | 83 => ⟨S7168x2048, .i32⟩
  | 84 => ⟨S_, .i32⟩
  | 85 => ⟨S7168x2048, .i32⟩
  | 86 => ⟨S7168x2048, .i32⟩
  | 87 => ⟨S7168x2048, .f32⟩
  | 88 => ⟨S_, .i32⟩
  | 89 => ⟨S7168x2048, .i32⟩
  | 90 => ⟨S7168x2048, .i1⟩
  | 91 => ⟨S_, .f32⟩
  | 92 => ⟨S7168x2048, .f32⟩
  | 93 => ⟨S7168x2048, .f32⟩
  | 94 => ⟨S_, .f32⟩
  | 95 => ⟨S7168x2048, .f32⟩
  | 96 => ⟨S7168x2048, .f32⟩
  | 97 => ⟨S_, .i32⟩
  | 98 => ⟨S7168x2048, .i32⟩
  | 99 => ⟨S7168x2048, .i32⟩
  | 100 => ⟨S7168x2048, .f32⟩
  | 101 => ⟨S7168x2048, .f32⟩
  | 102 => ⟨S_, .f32⟩
  | 103 => ⟨S7168x2048, .f32⟩
  | 104 => ⟨S7168x2048, .f32⟩
  | 105 => ⟨S7168x2048, .f32⟩
  | 106 => ⟨S_, .i32⟩
  | 107 => ⟨S7168x2048, .i32⟩
  | 108 => ⟨S7168x2048, .i32⟩
  | 109 => ⟨S_, .i32⟩
  | 110 => ⟨S7168x2048, .i32⟩
  | 111 => ⟨S7168x2048, .i32⟩
  | 112 => ⟨S7168x2048, .f32⟩
  | 113 => ⟨S7168x2048, .f32⟩
  | 114 => ⟨S7168x2048, .bf16⟩
  | 115 => ⟨S128x1x2048, .f32⟩
  | 116 => ⟨S_, .i32⟩
  | 117 => ⟨S7168x2048, .i32⟩
  | 118 => ⟨S7168x2048, .i32⟩
  | 119 => ⟨S_, .i32⟩
  | 120 => ⟨S7168x2048, .i32⟩
  | 121 => ⟨S7168x2048, .i32⟩
  | 122 => ⟨S_, .i32⟩
  | 123 => ⟨S7168x2048, .i32⟩
  | 124 => ⟨S7168x2048, .i32⟩
  | 125 => ⟨S7168x2048, .i32⟩
  | 126 => ⟨S_, .i32⟩
  | 127 => ⟨S7168x2048, .i32⟩
  | _ => ⟨S128x1x7168, .bf16⟩

abbrev hbmTy0_1 (i : Nat) : BufTy := match i % 128 with
  | 0 => ⟨S7168x2048, .i32⟩
  | 1 => ⟨S_, .i32⟩
  | 2 => ⟨S7168x2048, .i32⟩
  | 3 => ⟨S7168x2048, .i32⟩
  | 4 => ⟨S7168x2048, .i32⟩
  | 5 => ⟨S_, .i32⟩
  | 6 => ⟨S7168x2048, .i32⟩
  | 7 => ⟨S7168x2048, .i32⟩
  | 8 => ⟨S7168x2048, .f32⟩
  | 9 => ⟨S_, .i32⟩
  | 10 => ⟨S7168x2048, .i32⟩
  | 11 => ⟨S7168x2048, .i1⟩
  | 12 => ⟨S_, .f32⟩
  | 13 => ⟨S7168x2048, .f32⟩
  | 14 => ⟨S7168x2048, .f32⟩
  | 15 => ⟨S_, .f32⟩
  | 16 => ⟨S7168x2048, .f32⟩
  | 17 => ⟨S7168x2048, .f32⟩
  | 18 => ⟨S_, .i32⟩
  | 19 => ⟨S7168x2048, .i32⟩
  | 20 => ⟨S7168x2048, .i32⟩
  | 21 => ⟨S7168x2048, .f32⟩
  | 22 => ⟨S7168x2048, .f32⟩
  | 23 => ⟨S_, .f32⟩
  | 24 => ⟨S7168x2048, .f32⟩
  | 25 => ⟨S7168x2048, .f32⟩
  | 26 => ⟨S7168x2048, .f32⟩
  | 27 => ⟨S_, .i32⟩
  | 28 => ⟨S7168x2048, .i32⟩
  | 29 => ⟨S7168x2048, .i32⟩
  | 30 => ⟨S_, .i32⟩
  | 31 => ⟨S7168x2048, .i32⟩
  | 32 => ⟨S7168x2048, .i32⟩
  | 33 => ⟨S7168x2048, .f32⟩
  | 34 => ⟨S7168x2048, .f32⟩
  | 35 => ⟨S7168x2048, .bf16⟩
  | 36 => ⟨S128x1x2048, .f32⟩
  | 37 => ⟨S_, .i32⟩
  | 38 => ⟨S7168x2048, .i32⟩
  | 39 => ⟨S7168x2048, .i32⟩
  | 40 => ⟨S_, .i32⟩
  | 41 => ⟨S7168x2048, .i32⟩
  | 42 => ⟨S7168x2048, .i32⟩
  | 43 => ⟨S_, .i32⟩
  | 44 => ⟨S7168x2048, .i32⟩
  | 45 => ⟨S7168x2048, .i32⟩
  | 46 => ⟨S7168x2048, .i32⟩
  | 47 => ⟨S_, .i32⟩
  | 48 => ⟨S7168x2048, .i32⟩
  | 49 => ⟨S7168x2048, .i32⟩
  | 50 => ⟨S_, .i32⟩
  | 51 => ⟨S7168x2048, .i32⟩
  | 52 => ⟨S7168x2048, .i32⟩
  | 53 => ⟨S7168x2048, .i32⟩
  | 54 => ⟨S_, .i32⟩
  | 55 => ⟨S7168x2048, .i32⟩
  | 56 => ⟨S7168x2048, .i32⟩
  | 57 => ⟨S7168x2048, .f32⟩
  | 58 => ⟨S_, .i32⟩
  | 59 => ⟨S7168x2048, .i32⟩
  | 60 => ⟨S7168x2048, .i1⟩
  | 61 => ⟨S_, .f32⟩
  | 62 => ⟨S7168x2048, .f32⟩
  | 63 => ⟨S7168x2048, .f32⟩
  | 64 => ⟨S_, .f32⟩
  | 65 => ⟨S7168x2048, .f32⟩
  | 66 => ⟨S7168x2048, .f32⟩
  | 67 => ⟨S_, .i32⟩
  | 68 => ⟨S7168x2048, .i32⟩
  | 69 => ⟨S7168x2048, .i32⟩
  | 70 => ⟨S7168x2048, .f32⟩
  | 71 => ⟨S7168x2048, .f32⟩
  | 72 => ⟨S_, .f32⟩
  | 73 => ⟨S7168x2048, .f32⟩
  | 74 => ⟨S7168x2048, .f32⟩
  | 75 => ⟨S7168x2048, .f32⟩
  | 76 => ⟨S_, .i32⟩
  | 77 => ⟨S7168x2048, .i32⟩
  | 78 => ⟨S7168x2048, .i32⟩
  | 79 => ⟨S_, .i32⟩
  | 80 => ⟨S7168x2048, .i32⟩
  | 81 => ⟨S7168x2048, .i32⟩
  | 82 => ⟨S7168x2048, .f32⟩
  | 83 => ⟨S7168x2048, .f32⟩
  | 84 => ⟨S7168x2048, .bf16⟩
  | 85 => ⟨S128x1x2048, .f32⟩
  | 86 => ⟨S128x1x2048x1, .f32⟩
  | 87 => ⟨S128x1x2048x1, .f32⟩
  | 88 => ⟨S128x1x2048x1, .f32⟩
  | 89 => ⟨S128x1x2048x1, .f32⟩
  | 90 => ⟨S128x1x2048x4, .f32⟩
  | 91 => ⟨S128x1x8192, .f32⟩
  | 92 => ⟨S1x1x8192, .f32⟩
  | 93 => ⟨S128x1x8192, .f32⟩
  | 94 => ⟨S128x1x8192, .f32⟩
  | 95 => ⟨S128x1x8192, .bf16⟩
  | 96 => ⟨S128x8192, .bf16⟩
  | _ => ⟨S128x1x7168, .bf16⟩

abbrev hbmTy (i : Nat) : BufTy := match i / 128 with
  | 0 => hbmTy0_0 i
  | 1 => hbmTy0_1 i
  | _ => ⟨S128x1x7168, .bf16⟩

abbrev bufTy : (tb : Table) → Fin (tcTables nBuf tb) → BufTy
  | .hbm, ⟨i, _⟩ => hbmTy i
  | _, _ => ⟨S128x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_v41 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_c_14 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_16 : Ref sig .tc := ⟨.hbm, 77, rfl⟩
abbrev main_v56 : Ref sig .tc := ⟨.hbm, 78, rfl⟩
abbrev main_v57 : Ref sig .tc := ⟨.hbm, 79, rfl⟩
abbrev main_c_17 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_18 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_19 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_c_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_23 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_24 : Ref sig .tc := ⟨.hbm, 106, rfl⟩
abbrev main_v77 : Ref sig .tc := ⟨.hbm, 107, rfl⟩
abbrev main_v78 : Ref sig .tc := ⟨.hbm, 108, rfl⟩
abbrev main_c_25 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_26 : Ref sig .tc := ⟨.hbm, 116, rfl⟩
abbrev main_v85 : Ref sig .tc := ⟨.hbm, 117, rfl⟩
abbrev main_v86 : Ref sig .tc := ⟨.hbm, 118, rfl⟩
abbrev main_c_27 : Ref sig .tc := ⟨.hbm, 119, rfl⟩
abbrev main_v87 : Ref sig .tc := ⟨.hbm, 120, rfl⟩
abbrev main_v88 : Ref sig .tc := ⟨.hbm, 121, rfl⟩
abbrev main_c_28 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_29 : Ref sig .tc := ⟨.hbm, 126, rfl⟩
abbrev main_v92 : Ref sig .tc := ⟨.hbm, 127, rfl⟩
abbrev main_v93 : Ref sig .tc := ⟨.hbm, 128, rfl⟩
abbrev main_c_30 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_31 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_32 : Ref sig .tc := ⟨.hbm, 137, rfl⟩
abbrev main_v100 : Ref sig .tc := ⟨.hbm, 138, rfl⟩
abbrev main_v101 : Ref sig .tc := ⟨.hbm, 139, rfl⟩
abbrev main_cst_33 : Ref sig .tc := ⟨.hbm, 140, rfl⟩
abbrev main_v102 : Ref sig .tc := ⟨.hbm, 141, rfl⟩
abbrev main_v103 : Ref sig .tc := ⟨.hbm, 142, rfl⟩
abbrev main_cst_34 : Ref sig .tc := ⟨.hbm, 143, rfl⟩
abbrev main_v104 : Ref sig .tc := ⟨.hbm, 144, rfl⟩
abbrev main_v105 : Ref sig .tc := ⟨.hbm, 145, rfl⟩
abbrev main_c_35 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_36 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_37 : Ref sig .tc := ⟨.hbm, 155, rfl⟩
abbrev main_v113 : Ref sig .tc := ⟨.hbm, 156, rfl⟩
abbrev main_v114 : Ref sig .tc := ⟨.hbm, 157, rfl⟩
abbrev main_c_38 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_39 : Ref sig .tc := ⟨.hbm, 165, rfl⟩
abbrev main_v121 : Ref sig .tc := ⟨.hbm, 166, rfl⟩
abbrev main_v122 : Ref sig .tc := ⟨.hbm, 167, rfl⟩
abbrev main_c_40 : Ref sig .tc := ⟨.hbm, 168, rfl⟩
abbrev main_v123 : Ref sig .tc := ⟨.hbm, 169, rfl⟩
abbrev main_v124 : Ref sig .tc := ⟨.hbm, 170, rfl⟩
abbrev main_c_41 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_42 : Ref sig .tc := ⟨.hbm, 175, rfl⟩
abbrev main_v128 : Ref sig .tc := ⟨.hbm, 176, rfl⟩
abbrev main_v129 : Ref sig .tc := ⟨.hbm, 177, rfl⟩
abbrev main_c_43 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_44 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_c_45 : Ref sig .tc := ⟨.hbm, 186, rfl⟩
abbrev main_v136 : Ref sig .tc := ⟨.hbm, 187, rfl⟩
abbrev main_v137 : Ref sig .tc := ⟨.hbm, 188, rfl⟩
abbrev main_cst_46 : Ref sig .tc := ⟨.hbm, 189, rfl⟩
abbrev main_v138 : Ref sig .tc := ⟨.hbm, 190, rfl⟩
abbrev main_v139 : Ref sig .tc := ⟨.hbm, 191, rfl⟩
abbrev main_cst_47 : Ref sig .tc := ⟨.hbm, 192, rfl⟩
abbrev main_v140 : Ref sig .tc := ⟨.hbm, 193, rfl⟩
abbrev main_v141 : Ref sig .tc := ⟨.hbm, 194, rfl⟩
abbrev main_c_48 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_49 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_c_50 : Ref sig .tc := ⟨.hbm, 204, rfl⟩
abbrev main_v149 : Ref sig .tc := ⟨.hbm, 205, rfl⟩
abbrev main_v150 : Ref sig .tc := ⟨.hbm, 206, rfl⟩
abbrev main_c_51 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩

abbrev nD : Nat := 1
abbrev τ : Topo := Topo.v7x

variable {F : FTy → Type} [FloatOps F]
-- ==== Proof.Entry.lean ====
module

public import proofs.«01_k».proof.Proof.Gen.KernelIdeal.Value
public import Idealize.ShloMosaic.Lib.ValueIdx

/-! # What the kernel's inputs hold when it starts

The host moves the byte axis of the packed weights to the front, splits the scales into one row per field, and drops the
activations' unit axis.  Here the three arrays the kernel reads are read back to the arguments. -/

@[expose] public section

set_option maxRecDepth 16384

noncomputable section

namespace Cert.KernelIdeal.Hand
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

theorem V_main_v0 : V m c main_v0
    = transpose S3x7168x2048 [2, 0, 1] (m ((c : Thread nD τ).loc main_arg1) : Vec Ideal S7168x2048x3 .i8) transposes_S7168x2048x3_S3x7168x2048_2_0_1 := rfl

theorem V_main_v3 : V m c main_v3
    = shapeCast S4x1x2048 (transpose S4x2048 [1, 0] (shapeCast S2048x4 (m ((c : Thread nD τ).loc main_arg2) : Vec Ideal S8192 .f32) shapeCasts_S8192_S2048x4)
        transposes_S2048x4_S4x2048_1_0) shapeCasts_S4x2048_S4x1x2048 := rfl

theorem V_main_v4 : V m c main_v4
    = shapeCast S128x7168 (m ((c : Thread nD τ).loc main_arg0) : Vec Ideal S128x1x7168 .bf16) shapeCasts_S128x1x7168_S128x7168 := rfl

theorem planes_apply (p : Fin 3) (k : Fin 7168) (w : Fin 2048) :
    (V m c main_v0 : Vec Ideal S3x7168x2048 .i8) (ix3 p k w) = (m ((c : Thread nD τ).loc main_arg1) : Vec Ideal S7168x2048x3 .i8) (ix3 k w p) := by
  rw [V_main_v0]
  exact transpose_apply _ _ _ _ _ fun b => match b with | ⟨0, _⟩ => rfl | ⟨1, _⟩ => rfl | ⟨2, _⟩ => rfl

theorem acts_apply (r : Fin 128) (k : Fin 7168) :
    (V m c main_v4 : Vec Ideal S128x7168 .bf16) (ix2 r k) = (m ((c : Thread nD τ).loc main_arg0) : Vec Ideal S128x1x7168 .bf16) (ix3 r 0 k) := by
  rw [V_main_v4]
  refine shapeCast_apply _ _ _ _ ?_
  refine (Shape.rowMajor_val_three (d := ![128, 1, 7168]) _).trans (Eq.trans ?_ (Shape.rowMajor_val_two (d := ![128, 7168]) _).symm)
  show (r.val * 1 + 0) * 7168 + k.val = r.val * 7168 + k.val
  omega

theorem scale_apply (f : Fin 4) (w : Fin 2048) :
    (V m c main_v3 : Vec Ideal S4x1x2048 .f32) (ix3 f 0 w)
      = (m ((c : Thread nD τ).loc main_arg2) : Vec Ideal S8192 .f32) (ix1 ⟨4 * w.val + f.val, by omega⟩) := by
  rw [V_main_v3]
  refine (shapeCast_apply _ _ _ (ix2 f w : S4x2048.Idx) ?_).trans ?_
  · refine (Shape.rowMajor_val_two (d := ![4, 2048]) _).trans (Eq.trans ?_ (Shape.rowMajor_val_three (d := ![4, 1, 2048]) _).symm)
    show f.val * 2048 + w.val = (f.val * 1 + 0) * 2048 + w.val
    omega
  refine (transpose_apply _ _ _ _ (ix2 w f : S2048x4.Idx) fun b => match b with | ⟨0, _⟩ => rfl | ⟨1, _⟩ => rfl).trans ?_
  refine shapeCast_apply _ _ _ _ ?_
  refine (Shape.rowMajor_val_one (d := ![8192]) _).trans (Eq.trans ?_ (Shape.rowMajor_val_two (d := ![2048, 4]) _).symm)
  show 4 * w.val + f.val = w.val * 4 + f.val
  omega

end Cert.KernelIdeal.Hand
-- ==== Proof.Interleave.lean ====
module

public import proofs.«01_k».proof.Proof.Gen.KernelIdeal.Value
public import Idealize.ShloMosaic.Lib.ValueIdx

/-! # The four fields put back in column order

The kernel holds one 128-column part per field.  The finished block has 512 columns, and column `col` of it is
column `col / 4` of the part of field `col % 4`.  The kernel builds it as four tiles of 128 columns: tile `q` reads,
at lane `l`, column `l / 4 + 32 q` of the part of field `l % 4`. -/

@[expose] public section

set_option maxRecDepth 16384

noncomputable section

namespace Cert.KernelIdeal.Hand
open Cert.KernelIdeal Cert.KernelIdeal.Gen Idealize.ShloMosaic Idealize.ShloMosaic.TcCoe Idealize.SL.Sem Idealize.ShloMosaic.ValueIdx

/-- The lane number. -/
def lanes : IVec S128x128 32 := iota .tc S128x128 32 [1] iota_S128x128_d1_w32

/-- The column every lane of tile `q` reads: `lane / 4 + 32 q`, with `c` the word `32 q`. -/
def colWord (c : BitVec 32) : IVec S128x128 32 := addi (shrsi lanes (broadcast S128x128 2#32)) (broadcast S128x128 c)

/-- The wrapped form of the column word: a negative index would count from the end. -/
def wrapped (g : IVec S128x128 32) : IVec S128x128 32 :=
  select (cmpi .slt g (broadcast S128x128 0#32)) (addi g (broadcast S128x128 128#32)) g

/-- A gather along the lanes of one part. -/
def gat (v : FVec Ideal S128x128 .f32) (g : IVec S128x128 32) : FVec Ideal S128x128 .f32 :=
  dynamicGather 1 v (shapeCast S128x128 (shapeCast S128x128x1 (wrapped g) shapeCasts_S128x128_S128x128x1) shapeCasts_S128x128x1_S128x128)

/-- One tile: field `lane % 4` picks which part the gathered value comes from. -/
def tile (v0 v1 v2 v3 : FVec Ideal S128x128 .f32) (g : IVec S128x128 32) : FVec Ideal S128x128 .bf16 :=
  truncf .bf16 (select (cmpi .slt k0_pay25 (broadcast S128x128 2#32))
    (select (cmpi .eq k0_pay25 (broadcast S128x128 0#32)) (gat v0 g) (gat v1 g))
    (select (cmpi .eq k0_pay25 (broadcast S128x128 2#32)) (gat v2 g) (gat v3 g))) bitsLt_bf16_f32

theorem lanes_apply (r l : Fin 128) : lanes (ix2 r l) = BitVec.ofNat 32 l.val := iota_single_apply _ _ _ _ _ _

/-- The wrapped column word of tile `q` at lane `l`, for every lane and tile. -/
theorem wrapped_word : ∀ (q : Fin 4) (l : Fin 128),
    (Scalar.select (IntOp.cmpi .slt (IntOp.addi (IntOp.shrsi .vector (BitVec.ofNat 32 l.val) 2#32) (BitVec.ofNat 32 (32 * q.val))) 0#32)
      (IntOp.addi (IntOp.addi (IntOp.shrsi .vector (BitVec.ofNat 32 l.val) 2#32) (BitVec.ofNat 32 (32 * q.val))) 128#32)
      (IntOp.addi (IntOp.shrsi .vector (BitVec.ofNat 32 l.val) 2#32) (BitVec.ofNat 32 (32 * q.val)))).toNat = l.val / 4 + 32 * q.val := by
  decide +kernel

/-- A gather of tile `q` reads column `l / 4 + 32 q`. -/
theorem gat_apply (v : FVec Ideal S128x128 .f32) (q : Fin 4) (r l : Fin 128) :
    gat v (colWord (BitVec.ofNat 32 (32 * q.val))) (ix2 r l) = v (ix2 r ⟨l.val / 4 + 32 * q.val, by omega⟩) := by
  unfold gat
  rw [shapeCast_shapeCast]
  have h := wrapped_word q l
  rw [← lanes_apply r l] at h
  show v _ = v _
  refine congrArg v (funext fun a => Fin.ext ?_)
  match a with
  | ⟨0, _⟩ => rfl
  | ⟨1, _⟩ =>
    show BitVec.toNat _ % 128 = _
    have e : (wrapped (colWord (BitVec.ofNat 32 (32 * q.val))) (ix2 r l)).toNat = l.val / 4 + 32 * q.val := h
    rw [e]
    exact Nat.mod_eq_of_lt (by omega)

/-- The three lane tests, for every lane. -/
theorem field_tests : ∀ l : Fin 128,
    (IntOp.cmpi .slt (IntOp.andi (BitVec.ofNat 32 l.val) 3#32) 2#32 = if l.val % 4 < 2 then 1#1 else 0#1) ∧
    (IntOp.cmpi .eq (IntOp.andi (BitVec.ofNat 32 l.val) 3#32) 0#32 = if l.val % 4 = 0 then 1#1 else 0#1) ∧
    (IntOp.cmpi .eq (IntOp.andi (BitVec.ofNat 32 l.val) 3#32) 2#32 = if l.val % 4 = 2 then 1#1 else 0#1) := by
  decide +kernel

/-- The part of field `f`. -/
def part (v0 v1 v2 v3 : FVec Ideal S128x128 .f32) : Fin 4 → FVec Ideal S128x128 .f32
  | ⟨0, _⟩ => v0
  | ⟨1, _⟩ => v1
  | ⟨2, _⟩ => v2
  | ⟨3, _⟩ => v3

/-- The three tests pick the part of the field. -/
theorem select_part (v0 v1 v2 v3 : FVec Ideal S128x128 .f32) (m : ℕ) (hm : m < 4) (i : S128x128.Idx) :
    Scalar.select (if m < 2 then 1#1 else 0#1) (Scalar.select (if m = 0 then 1#1 else 0#1) (v0 i) (v1 i))
      (Scalar.select (if m = 2 then 1#1 else 0#1) (v2 i) (v3 i)) = part v0 v1 v2 v3 ⟨m, hm⟩ i := by
  match m, hm with
  | 0, _ => rfl
  | 1, _ => rfl
  | 2, _ => rfl
  | 3, _ => rfl

/-- Tile `q` at lane `l` is column `l / 4 + 32 q` of the part of field `l % 4`. -/
theorem tile_apply (v0 v1 v2 v3 : FVec Ideal S128x128 .f32) (q : Fin 4) (r l : Fin 128) :
    tile v0 v1 v2 v3 (colWord (BitVec.ofNat 32 (32 * q.val))) (ix2 r l)
      = part v0 v1 v2 v3 ⟨l.val % 4, Nat.mod_lt _ (by decide)⟩ (ix2 r ⟨l.val / 4 + 32 * q.val, by omega⟩) := by
  obtain ⟨h1, h2, h3⟩ := field_tests l
  rw [← lanes_apply r l] at h1 h2 h3
  have e : tile v0 v1 v2 v3 (colWord (BitVec.ofNat 32 (32 * q.val))) (ix2 r l) =
      Scalar.select (IntOp.cmpi .slt (IntOp.andi (lanes (ix2 r l)) 3#32) 2#32)
        (Scalar.select (IntOp.cmpi .eq (IntOp.andi (lanes (ix2 r l)) 3#32) 0#32)
          (gat v0 (colWord (BitVec.ofNat 32 (32 * q.val))) (ix2 r l)) (gat v1 (colWord (BitVec.ofNat 32 (32 * q.val))) (ix2 r l)))
        (Scalar.select (IntOp.cmpi .eq (IntOp.andi (lanes (ix2 r l)) 3#32) 2#32)
          (gat v2 (colWord (BitVec.ofNat 32 (32 * q.val))) (ix2 r l)) (gat v3 (colWord (BitVec.ofNat 32 (32 * q.val))) (ix2 r l))) := rfl
  rw [e, h1, h2, h3, gat_apply, gat_apply, gat_apply, gat_apply]
  exact select_part v0 v1 v2 v3 _ (Nat.mod_lt _ (by decide)) _

/-- The kernel's last payload, on its own other payloads, is the four tiles side by side. -/
theorem pay1_eq (v41 v42 v43 v44 : FVec Ideal S128x128 .f32) (u0 u1 : FVec Ideal S128x128 .bf16)
    (h0 : k0_pay21 u0 = v41) (h1 : k0_pay22 u1 = v42) :
    k0_pay1 v43 v44 k0_pay25
      (k0_pay31 v43 v44 k0_pay25 k0_pay26 (k0_pay27 u0) (k0_pay28 u1) k0_pay29 k0_pay30)
      (k0_pay36 v43 v44 k0_pay25 (k0_pay32 lanes) (k0_pay33 v41 lanes) (k0_pay34 v42 lanes) (k0_pay35 lanes))
      (k0_pay41 v43 v44 k0_pay25 (k0_pay37 lanes) (k0_pay38 v41 lanes) (k0_pay39 v42 lanes) (k0_pay40 lanes))
      (k0_pay42 lanes) (k0_pay43 v41 lanes) (k0_pay44 v42 lanes) (k0_pay45 lanes)
      = concatenate S128x512 1 (List.ofFn fun q : Fin 4 =>
          (⟨S128x128, tile v41 v42 v43 v44 (colWord (BitVec.ofNat 32 (32 * q.val)))⟩ : (s : Shape) × (s.Idx → Ideal .bf16)))
          concatenates_S128x128_S128x128_S128x128_S128x128_S128x512_d1 := by
  subst h0 h1
  rfl

/-- The four tiles side by side at column `col`: column `col / 4` of the part of field `col % 4`. -/
theorem tiles_apply (v0 v1 v2 v3 : FVec Ideal S128x128 .f32) (r : Fin 128) (col : Fin 512) :
    concatenate S128x512 1 (List.ofFn fun q : Fin 4 =>
        (⟨S128x128, tile v0 v1 v2 v3 (colWord (BitVec.ofNat 32 (32 * q.val)))⟩ : (s : Shape) × (s.Idx → Ideal .bf16)))
        concatenates_S128x128_S128x128_S128x128_S128x128_S128x512_d1 (ix2 r col)
      = part v0 v1 v2 v3 ⟨col.val % 4, Nat.mod_lt _ (by decide)⟩ (ix2 r ⟨col.val / 4, by omega⟩) := by
  refine (concatenate_ofFn_apply (s₁ := S128x128) (1 : Fin S128x512.rank)
    (fun q : Fin 4 => tile v0 v1 v2 v3 (colWord (BitVec.ofNat 32 (32 * q.val)))) _ rfl 128 rfl (ix2 r col)
    ⟨col.val / 128, by omega⟩ rfl (ix2 r ⟨col.val % 128, Nat.mod_lt _ (by decide)⟩) rfl
    (fun b hb => by
      match b with
      | ⟨0, _⟩ => rfl
      | ⟨1, _⟩ => exact absurd rfl hb)).trans ?_
  refine (tile_apply v0 v1 v2 v3 ⟨col.val / 128, by omega⟩ r ⟨col.val % 128, Nat.mod_lt _ (by decide)⟩).trans ?_
  refine congr (congrArg (part v0 v1 v2 v3) (Fin.ext ?_)) (funext fun a => ?_)
  · show col.val % 128 % 4 = col.val % 4
    omega
  · match a with
    | ⟨0, _⟩ => rfl
    | ⟨1, _⟩ => exact Fin.ext (by show col.val % 128 / 4 + 32 * (col.val / 128) = col.val / 4; omega)

end Cert.KernelIdeal.Hand
-- ==== Proof.Codes.lean ====
/-
  Six-bit codes in bytes and in words. Four codes lie in three bytes `b0 b1 b2`. Here: each code as a byte (`code`), the byte
  of the eight-bit float with five exponent bits and two fraction bits that carries it (`carry`), the same operations done on
  four bytes at once in a 32-bit word (`word…`), read byte by byte (`byteOf`), and the code cut out of the 24-bit little-endian
  integer (`triple`).
-/
module

public import Idealize.ShloMosaic.Lib.BitcastFour
public import Idealize.ShloMosaic.Lib.KernelVsHost
public import Idealize.ShloMosaic.PureOps.Vector
public import Mathlib.Tactic.IntervalCases

@[expose] public section

namespace Cert.Fp6

open Idealize.ShloMosaic

/-- Code `f` of three bytes: bits `6f .. 6f+5` of their little-endian 24-bit integer. -/
def code (f : Fin 4) (b0 b1 b2 : BitVec 8) : BitVec 8 :=
  match f with
  | 0 => b0 &&& 0x3F#8
  | 1 => ((b1 <<< 2) &&& 0x3C#8) ||| ((b0 >>> 6) &&& 0x03#8)
  | 2 => ((b1 >>> 4) &&& 0x0F#8) ||| ((b2 <<< 4) &&& 0x30#8)
  | 3 => (b2 >>> 2) &&& 0x3F#8

/-- The byte that carries a code: its sign at bit 7, its exponent and fraction at bits 0 to 4. -/
def carry (c : BitVec 8) : BitVec 8 := (c + 0x60#8) &&& 0x9F#8

/-- Byte `k` of a word. -/
def byteOf (k : ℕ) (w : BitVec 32) : BitVec 8 := w.extractLsb' (8 * k) 8

/-- The codes of four byte triples at once: the words hold the four first, second and third bytes. -/
def wordCode (f : Fin 4) (w0 w1 w2 : BitVec 32) : BitVec 32 :=
  match f with
  | 0 => IntOp.andi w0 0x3F3F3F3F#32
  | 1 => IntOp.ori (IntOp.andi (IntOp.shli .vector w1 2#32) 0x3C3C3C3C#32) (IntOp.andi (IntOp.shrui .vector w0 6#32) 0x03030303#32)
  | 2 => IntOp.ori (IntOp.andi (IntOp.shrui .vector w1 4#32) 0x0F0F0F0F#32) (IntOp.andi (IntOp.shli .vector w2 4#32) 0x30303030#32)
  | 3 => IntOp.andi (IntOp.shrui .vector w2 2#32) 0x3F3F3F3F#32

/-- `carry` on four bytes at once. -/
def wordCarry (z : BitVec 32) : BitVec 32 := IntOp.andi (IntOp.addi z 0x60606060#32) 0x9F9F9F9F#32

theorem shrui_lit (w : BitVec 32) (n : ℕ) (h : n < 32) : IntOp.shrui .vector w (BitVec.ofNat 32 n) = w >>> n := by
  unfold IntOp.shrui
  have : (BitVec.ofNat 32 n).toNat = n := by simp; omega
  simp [this, h]

theorem shli_lit (w : BitVec 32) (n : ℕ) (h : n < 32) : IntOp.shli .vector w (BitVec.ofNat 32 n) = w <<< n := by
  unfold IntOp.shli
  have : (BitVec.ofNat 32 n).toNat = n := by simp; omega
  simp [this, h]

/-- A byte of the word of codes is the code of the bytes. -/
theorem byteOf_wordCode (f : Fin 4) (w0 w1 w2 : BitVec 32) (k : ℕ) (hk : k < 4) :
    byteOf k (wordCode f w0 w1 w2) = code f (byteOf k w0) (byteOf k w1) (byteOf k w2) := by
  have e2 := fun w => shli_lit w 2 (by decide)
  have e4 := fun w => shli_lit w 4 (by decide)
  have r2 := fun w => shrui_lit w 2 (by decide)
  have r4 := fun w => shrui_lit w 4 (by decide)
  have r6 := fun w => shrui_lit w 6 (by decide)
  apply BitVec.eq_of_getLsbD_eq
  intro i hi
  fin_cases f <;> simp only [code, wordCode, byteOf, e2, e4, r2, r4, r6, IntOp.andi, IntOp.ori] <;>
    interval_cases k <;> interval_cases i <;> simp

/-- A code is below 64. -/
theorem code_lt (f : Fin 4) (b0 b1 b2 : BitVec 8) : (code f b0 b1 b2).toNat < 64 := by
  have h : code f b0 b1 b2 = code f b0 b1 b2 &&& 0x3F#8 := by
    apply BitVec.eq_of_getLsbD_eq
    intro i hi
    fin_cases f <;> simp only [code] <;> interval_cases i <;> simp
  rw [h, BitVec.toNat_and]
  exact Nat.lt_of_le_of_lt Nat.and_le_right (by decide)

theorem byteOf_toNat (k : ℕ) (w : BitVec 32) : (byteOf k w).toNat = w.toNat / 2 ^ (8 * k) % 256 := by
  simp [byteOf, BitVec.extractLsb', Nat.shiftRight_eq_div_pow]

/-- Adding `0x60` to four codes at once carries nothing from one byte into the next. -/
theorem byteOf_wordCarry (z : BitVec 32) (hz : ∀ k, k < 4 → (byteOf k z).toNat < 64) (k : ℕ) (hk : k < 4) :
    byteOf k (wordCarry z) = carry (byteOf k z) := by
  have hand : byteOf k (wordCarry z) = byteOf k (z + 0x60606060#32) &&& 0x9F#8 := by
    apply BitVec.eq_of_getLsbD_eq
    intro i hi
    simp only [wordCarry, byteOf, IntOp.andi, IntOp.addi]
    interval_cases k <;> interval_cases i <;> simp
  rw [hand, carry]
  refine congrArg (· &&& 0x9F#8) ?_
  apply BitVec.eq_of_toNat_eq
  have h0 := hz 0 (by decide)
  have h1 := hz 1 (by decide)
  have h2 := hz 2 (by decide)
  have h3 := hz 3 (by decide)
  have hlt := z.isLt
  rw [byteOf_toNat] at h0 h1 h2 h3
  rw [byteOf_toNat, BitVec.toNat_add, BitVec.toNat_add, byteOf_toNat]
  simp only [BitVec.toNat_ofNat] at *
  interval_cases k <;> omega

/-- The three bytes as one little-endian integer, as the host joins them. -/
def triple (b0 b1 b2 : BitVec 8) : BitVec 32 :=
  IntOp.ori (IntOp.ori (b0.setWidth 32) (IntOp.shli .host (b1.setWidth 32) 8#32)) (IntOp.shli .host (b2.setWidth 32) 16#32)

/-- Code `f` cut out of that integer. -/
theorem triple_code (f : Fin 4) (b0 b1 b2 : BitVec 8) :
    IntOp.andi (IntOp.shrui .host (triple b0 b1 b2) (BitVec.ofNat 32 (6 * f.val))) 63#32 = (code f b0 b1 b2).setWidth 32 := by
  rw [shrui_unit .host .vector, shrui_lit _ _ (by omega), triple, shli_unit .host .vector, shli_unit .host .vector,
    shli_lit _ 8 (by decide), shli_lit _ 16 (by decide)]
  apply BitVec.eq_of_getLsbD_eq
  intro i hi
  by_cases h6 : i < 6
  · fin_cases f <;> simp only [code, IntOp.andi, IntOp.ori] <;> interval_cases i <;> simp
  · have h1 : ((63#32 : BitVec 32)).getLsbD i = false := by interval_cases i <;> simp_all
    have h2 : (code f b0 b1 b2).getLsbD i = false := by
      rw [BitVec.getLsbD]
      exact Nat.testBit_lt_two_pow (Nat.lt_of_lt_of_le (code_lt f b0 b1 b2) (Nat.pow_le_pow_right (by decide : 0 < 2) (by omega : 6 ≤ i)))
    simp [IntOp.andi, h1, h2]

end Cert.Fp6
-- ==== Proof.Step.lean ====
module

public import proofs.«01_k».proof.Proof.Gen.KernelIdeal.Value
public import proofs.«01_k».proof.Proof.Codes
public import Idealize.ShloMosaic.Lib.ValueIdx
public import Idealize.ShloMosaic.Lib.MatmulPlain
public import Idealize.ShloMosaic.Lib.BitcastFour

/-! # One trip of the kernel's loop

A trip takes 1024 rows of the three byte planes and 1024 columns of the activations.  For each field it cuts the
codes out of the bytes four at a time, adds the exponent bias, reads the result as eight-bit floats, and adds the
matrix product of the activations with them to that field's accumulator.  Here each payload of the trip is read at
an index. -/

@[expose] public section

set_option maxRecDepth 16384

noncomputable section

namespace Cert.KernelIdeal.Hand
open Cert.KernelIdeal Cert.KernelIdeal.Gen Cert.Fp6 Idealize.ShloMosaic Idealize.ShloMosaic.TcCoe Idealize.SL.Sem Idealize.ShloMosaic.ValueIdx

/-- Bytes read as words: byte `k` of the word in row `a` is the byte of row `4a + k`. -/
theorem byteOf_bitcast (x : IVec S1024x128 8) (a : Fin 256) (l : Fin 128) (k : ℕ) (hk : k < 4) :
    byteOf k (bitcast S256x128 32 x bitcasts_S1024x128_w8_S256x128_w32 (ix2 a l)) = x (ix2 ⟨4 * a.val + k, by omega⟩ l) := by
  apply BitVec.eq_of_getLsbD_eq
  intro i hi
  have h := bitcast_8_32_getLsbD_ix2 x bitcasts_S1024x128_w8_S256x128_w32 a l (8 * k + i) (by omega)
    ⟨4 * a.val + k, by omega⟩ (by show 4 * a.val + k = _; omega)
  rw [show (8 * k + i) % 8 = i by omega] at h
  unfold byteOf
  rw [BitVec.getLsbD_extractLsb', h]
  simp [hi]

/-- Words read as bytes: the byte of row `r` is byte `r % 4` of the word in row `r / 4`. -/
theorem bitcast_byteOf (x : IVec S256x128 32) (r : Fin 1024) (l : Fin 128) :
    bitcast S1024x128 8 x bitcasts_S256x128_w32_S1024x128_w8 (ix2 r l) = byteOf (r.val % 4) (x (ix2 ⟨r.val / 4, by omega⟩ l)) := by
  apply BitVec.eq_of_getLsbD_eq
  intro i hi
  have hrow : (S1024x128).row (ix2 r l) = r.val := rfl
  rw [bitcast_getLsbD x bitcasts_S256x128_w32_S1024x128_w8 _ i hi (by decide)]
  unfold byteOf
  rw [BitVec.getLsbD_extractLsb']
  simp only [hi, decide_true, Bool.true_and]
  have em : ((S1024x128).row (ix2 r l) * 8 + i) % 32 = 8 * (r.val % 4) + i := by rw [hrow]; omega
  rw [em]
  congr 2
  funext c
  match c with
  | ⟨0, _⟩ =>
    refine Fin.ext ((Shape.Bitcasts.srcIdx_row bitcasts_S256x128_w32_S1024x128_w8 _ _ _ ⟨0, Nat.zero_lt_two⟩ rfl).trans ?_)
    show ((S1024x128).row (ix2 r l) * 8 + i) / 32 = r.val / 4
    rw [hrow]; omega
  | ⟨1, _⟩ => exact Fin.ext (Shape.Bitcasts.srcIdx_other bitcasts_S256x128_w32_S1024x128_w8 _ _ _ ⟨1, Nat.one_lt_two⟩ (by show ¬ 1 + 2 = 2; omega))

/-- One plane's bytes as words. -/
def words (p : IVec S1x1024x128 8) : IVec S256x128 32 :=
  bitcast S256x128 32 (shapeCast S1024x128 p shapeCasts_S1x1024x128_S1024x128) bitcasts_S1024x128_w8_S256x128_w32

/-- The weights of field `f` of 1024 rows, still divided by 4096. -/
def weights (f : Fin 4) (p0 p1 p2 : IVec S1x1024x128 8) : FVec Ideal S1024x128 .bf16 :=
  extf .bf16 (bitcastToFloat .fp8e5m2 (bitcast S1024x128 8
    (fun i => wordCarry (wordCode f (words p0 i) (words p1 i) (words p2 i))) bitcasts_S256x128_w32_S1024x128_w8)) bitsLt_fp8e5m2_bf16

theorem byteOf_words (p : IVec S1x1024x128 8) (r : Fin 1024) (l : Fin 128) :
    byteOf (r.val % 4) (words p (ix2 ⟨r.val / 4, by omega⟩ l)) = p (ix3 0 r l) := by
  unfold words
  rw [byteOf_bitcast _ _ _ _ (Nat.mod_lt _ (by decide))]
  rw [shapeCast_dropUnit_apply ![1024, 128]]
  refine congrArg p (funext fun a => ?_)
  match a with
  | ⟨0, _⟩ => rfl
  | ⟨1, _⟩ => exact Fin.ext (by show 4 * (r.val / 4) + r.val % 4 = r.val; omega)
  | ⟨2, _⟩ => rfl

/-- A weight is the float carrying its row's code. -/
theorem weights_apply (f : Fin 4) (p0 p1 p2 : IVec S1x1024x128 8) (r : Fin 1024) (l : Fin 128) :
    weights f p0 p1 p2 (ix2 r l)
      = Ideal.ofBits .fp8e5m2 (carry (code f (p0 (ix3 0 r l)) (p1 (ix3 0 r l)) (p2 (ix3 0 r l)))) := by
  show Ideal.ofBits .fp8e5m2 (bitcast S1024x128 8 _ bitcasts_S256x128_w32_S1024x128_w8 (ix2 r l)) = _
  rw [bitcast_byteOf]
  rw [byteOf_wordCarry _ (fun k hk => by rw [byteOf_wordCode _ _ _ _ _ hk]; exact code_lt _ _ _ _) _ (Nat.mod_lt _ (by decide)),
    byteOf_wordCode _ _ _ _ _ (Nat.mod_lt _ (by decide)), byteOf_words, byteOf_words, byteOf_words]

/-- What a trip stores into a field's accumulator: the old contents plus the product. -/
def step (x : FVec Ideal S128x1024 .bf16) (w : FVec Ideal S1024x128 .bf16) (a : FVec Ideal S1x128x128 .f32) : FVec Ideal S1x128x128 .f32 :=
  shapeCast S1x128x128 (addf (shapeCast S128x128 a shapeCasts_S1x128x128_S128x128)
    (matmul dot_S128x1024_S1024x128_S128x128_1_0_0_1_n_n none (shapeCast S128x1024 x shapeCasts_S128x1024_S128x1024) w
      (constant S128x128 .f32 0x00000000#32))) shapeCasts_S128x128_S1x128x128

theorem step_apply (x : FVec Ideal S128x1024 .bf16) (w : FVec Ideal S1024x128 .bf16) (a : FVec Ideal S1x128x128 .f32) (r n : Fin 128) :
    step x w a (ix3 0 r n) = a (ix3 0 r n) + ∑ k : Fin 1024, x (ix2 r k) * w (ix2 k n) := by
  unfold step
  rw [shapeCast_self]
  rw [shapeCast_addUnit_apply ![128, 128]]
  refine Eq.trans (congrArg _ (?_ : _ = (ix2 r n : S128x128.Idx))) ?_
  · funext a
    match a with
    | ⟨0, _⟩ => rfl
    | ⟨1, _⟩ => rfl
  have h1 := Ideal.matmul_plain_apply none x w (constant S128x128 .f32 0x00000000#32) r n
  have h2 : (shapeCast S128x128 a shapeCasts_S1x128x128_S128x128) (ix2 r n) = a (ix3 0 r n) := by
    rw [shapeCast_dropUnit_apply ![128, 128]]
    refine congrArg a (funext fun a => ?_)
    match a with
    | ⟨0, _⟩ => rfl
    | ⟨1, _⟩ => rfl
    | ⟨2, _⟩ => rfl
  have h3 : (constant (F := Ideal) S128x128 .f32 0x00000000#32) (ix2 r n) = (0 : EReal) := Ideal.ofBits_zero_f32
  rw [h3, zero_add] at h1
  exact congr (congrArg (fun (y z : EReal) => y + z) h2) h1

/-! The four payloads are this step. -/

theorem pay12_eq (x : FVec Ideal S128x1024 .bf16) (p0 p1 p2 : Vec Ideal S1x1024x128 .i8) (a : FVec Ideal S1x128x128 .f32) :
    k0_pay12 (k0_pay5 x) (k0_pay6 (F := Ideal) p0) a = step x (weights 0 p0 p1 p2) a := rfl

theorem pay15_eq (x : FVec Ideal S128x1024 .bf16) (p0 p1 p2 : Vec Ideal S1x1024x128 .i8) (a : FVec Ideal S1x128x128 .f32) :
    k0_pay15 (k0_pay13 (k0_pay5 x) (k0_pay7 (F := Ideal) p0 p1) a) = step x (weights 1 p0 p1 p2) a := rfl

theorem pay16_eq (x : FVec Ideal S128x1024 .bf16) (p0 p1 p2 : Vec Ideal S1x1024x128 .i8) (a : FVec Ideal S1x128x128 .f32) :
    k0_pay16 (k0_pay5 x) (k0_pay10 (k0_pay8 (F := Ideal) p1 p2)) a = step x (weights 2 p0 p1 p2) a := rfl

theorem pay17_eq (x : FVec Ideal S128x1024 .bf16) (p0 p1 p2 : Vec Ideal S1x1024x128 .i8) (a : FVec Ideal S1x128x128 .f32) :
    k0_pay17 (k0_pay5 x) (k0_pay11 (k0_pay4 (F := Ideal) p2) k0_pay9) a = step x (weights 3 p0 p1 p2) a := rfl

end Cert.KernelIdeal.Hand
-- ==== Proof.Loop.lean ====
module

public import proofs.«01_k».proof.Proof.Step
public import Idealize.ShloMosaic.Lib.WritesUnit

/-! # The kernel's loop: seven trips

The accumulator has one slot per field.  A trip reads each slot, adds its product and stores the slot back, so after
`k` trips a slot holds what it held before the loop plus the `k` trips' products. -/

@[expose] public section

set_option maxRecDepth 16384

noncomputable section

namespace Cert.KernelIdeal.Hand
open Cert.KernelIdeal Cert.KernelIdeal.Gen Cert.Fp6 Idealize.ShloMosaic Idealize.ShloMosaic.TcCoe Idealize.SL.Sem Idealize.ShloMosaic.ValueIdx

variable (𝒱 : Variants) (c : Dev nD) (bd : Option 𝒱.V) (i : grid0.Coords)
  (arg1 : Memref sig .tc .vmem S128x7168 .bf16) (harg1 : arg1.IsWhole) (arg2 : Memref sig .tc .vmem S3x7168x128 .i8) (harg2 : arg2.IsWhole)
  (arg3 : Memref sig .tc .vmem S4x1x128 .f32) (harg3 : arg3.IsWhole) (arg4 : Memref sig .tc .vmem S128x512 .bf16) (harg4 : arg4.IsWhole)
  (arg5 : Memref sig .tc .vmem S4x128x128 .f32) (harg5 : arg5.IsWhole)
  (X1 : BufTy.Contents (Elt Ideal) arg1.view.ty) (X2 : BufTy.Contents (Elt Ideal) arg2.view.ty)

theorem off1_eq : ∀ k : Fin k0_t1_loop.trips, k0_off1 k = ![0, 1024 * k.val, 0] := by decide +kernel
theorem off2_eq : ∀ k : Fin k0_t1_loop.trips, k0_off2 k = ![1, 1024 * k.val, 0] := by decide +kernel
theorem off3_eq : ∀ k : Fin k0_t1_loop.trips, k0_off3 k = ![2, 1024 * k.val, 0] := by decide +kernel
theorem off4_eq : ∀ k : Fin k0_t1_loop.trips, k0_off4 k = ![0, 1024 * k.val] := by decide +kernel
theorem trips_eq : k0_t1_loop.trips = 7 := by decide +kernel

/-- The activations a trip reads. -/
def xChunk (k : Fin k0_t1_loop.trips) : FVec Ideal S128x1024 .bf16 :=
  View.readAt (Elt Ideal) arg1.view (Rect.unit (s := S128x7168) (k0_off4 k) S128x1024.size (k0_off4_inb k)).toLoadRect X1

/-- The three byte planes a trip reads. -/
def p0Chunk (k : Fin k0_t1_loop.trips) : IVec S1x1024x128 8 :=
  View.readAt (Elt Ideal) arg2.view (Rect.unit (s := S3x7168x128) (k0_off1 k) S1x1024x128.size (k0_off1_inb k)).toLoadRect X2
def p1Chunk (k : Fin k0_t1_loop.trips) : IVec S1x1024x128 8 :=
  View.readAt (Elt Ideal) arg2.view (Rect.unit (s := S3x7168x128) (k0_off2 k) S1x1024x128.size (k0_off2_inb k)).toLoadRect X2
def p2Chunk (k : Fin k0_t1_loop.trips) : IVec S1x1024x128 8 :=
  View.readAt (Elt Ideal) arg2.view (Rect.unit (s := S3x7168x128) (k0_off3 k) S1x1024x128.size (k0_off3_inb k)).toLoadRect X2

/-- The weights of a trip. -/
def wChunk (f : Fin 4) (k : Fin k0_t1_loop.trips) : FVec Ideal S1024x128 .bf16 :=
  weights f (p0Chunk arg2 X2 k) (p1Chunk arg2 X2 k) (p2Chunk arg2 X2 k)

/-- The four slots stored, last first. -/
def slots (w : Fin 4 → FVec Ideal S1x128x128 .f32) : List (View.Piece (Elt Ideal) S4x128x128 .f32) :=
  [⟨Rect.unit ![3, 0, 0] S1x128x128.size inb_S4x128x128_S1x128x128_3_0_0, w 3⟩,
   ⟨Rect.unit ![2, 0, 0] S1x128x128.size inb_S4x128x128_S1x128x128_2_0_0, w 2⟩,
   ⟨Rect.unit ![1, 0, 0] S1x128x128.size inb_S4x128x128_S1x128x128_1_0_0, w 1⟩,
   ⟨Rect.unit ![0, 0, 0] S1x128x128.size inb_S4x128x128_S1x128x128_0_0_0, w 0⟩]

/-- What a slot holds. -/
def slot (f5 : BufTy.Contents (Elt Ideal) arg5.view.ty) (f : Fin 4) : FVec Ideal S1x128x128 .f32 :=
  fun j => arg5.view.read (Elt Ideal) f5 (ix3 f (j 1) (j 2))

/-- A load of a slot reads what the slot holds. -/
theorem readAt_slot (f5 : BufTy.Contents (Elt Ideal) arg5.view.ty) (q : ℕ) (hq : q < 4)
    (inb : ∀ a, (![q, 0, 0] : Fin 3 → ℕ) a + S1x128x128.size a ≤ S4x128x128.size a) :
    View.readAt (Elt Ideal) arg5.view (Rect.unit (s := S4x128x128) ![q, 0, 0] S1x128x128.size inb).toLoadRect f5 = slot arg5 f5 ⟨q, hq⟩ := by
  funext j
  refine congrArg (arg5.view.read (Elt Ideal) f5) (funext fun a => Fin.ext ?_)
  match a with
  | ⟨0, _⟩ =>
    have h : (j 0).val < 1 := (j 0).isLt
    show q + 1 * (j 0).val = q
    omega
  | ⟨1, _⟩ => show 0 + 1 * (j 1).val = (j 1).val; omega
  | ⟨2, _⟩ => show 0 + 1 * (j 2).val = (j 2).val; omega

theorem slot_apply (f5 : BufTy.Contents (Elt Ideal) arg5.view.ty) (f : Fin 4) (r n : Fin 128) :
    slot arg5 f5 f (ix3 0 r n) = arg5.view.read (Elt Ideal) f5 (ix3 f r n) := rfl

/-- A trip stores, in each slot, what the slot held plus the product. -/
theorem trip_eq (k : Fin k0_t1_loop.trips) (f5 : BufTy.Contents (Elt Ideal) arg5.view.ty) :
    tripL_k0_t1 (F := Ideal) 𝒱 c bd i arg1 harg1 arg2 harg2 arg3 harg3 arg4 harg4 arg5 harg5 X1 X2 k f5
      = slots fun f => step (xChunk arg1 X1 k) (wChunk arg2 X2 f k) (slot arg5 f5 f) := by
  unfold tripL_k0_t1 trip_k0_t1
  dsimp only
  have e3 := pay17_eq (xChunk arg1 X1 k) (p0Chunk arg2 X2 k) (p1Chunk arg2 X2 k) (p2Chunk arg2 X2 k) (slot arg5 f5 3)
  have e2 := pay16_eq (xChunk arg1 X1 k) (p0Chunk arg2 X2 k) (p1Chunk arg2 X2 k) (p2Chunk arg2 X2 k) (slot arg5 f5 2)
  have e1 := pay15_eq (xChunk arg1 X1 k) (p0Chunk arg2 X2 k) (p1Chunk arg2 X2 k) (p2Chunk arg2 X2 k) (slot arg5 f5 1)
  have e0 := pay12_eq (xChunk arg1 X1 k) (p0Chunk arg2 X2 k) (p1Chunk arg2 X2 k) (p2Chunk arg2 X2 k) (slot arg5 f5 0)
  show _ = ([⟨Rect.unit ![3, 0, 0] S1x128x128.size inb_S4x128x128_S1x128x128_3_0_0, step (xChunk arg1 X1 k) (wChunk arg2 X2 3 k) (slot arg5 f5 3)⟩,
    ⟨Rect.unit ![2, 0, 0] S1x128x128.size inb_S4x128x128_S1x128x128_2_0_0, step (xChunk arg1 X1 k) (wChunk arg2 X2 2 k) (slot arg5 f5 2)⟩,
    ⟨Rect.unit ![1, 0, 0] S1x128x128.size inb_S4x128x128_S1x128x128_1_0_0, step (xChunk arg1 X1 k) (wChunk arg2 X2 1 k) (slot arg5 f5 1)⟩,
    ⟨Rect.unit ![0, 0, 0] S1x128x128.size inb_S4x128x128_S1x128x128_0_0_0, step (xChunk arg1 X1 k) (wChunk arg2 X2 0 k) (slot arg5 f5 0)⟩] :
      List (View.Piece (Elt Ideal) S4x128x128 .f32))
  unfold wChunk
  rw [← e3, ← e2, ← e1, ← e0]
  rw [show (3 : Fin 4) = ⟨3, by decide⟩ from rfl, show (2 : Fin 4) = ⟨2, by decide⟩ from rfl, show (1 : Fin 4) = ⟨1, by decide⟩ from rfl,
    show (0 : Fin 4) = ⟨0, by decide⟩ from rfl, ← readAt_slot arg5 f5 3 _ inb_S4x128x128_S1x128x128_3_0_0,
    ← readAt_slot arg5 f5 2 _ inb_S4x128x128_S1x128x128_2_0_0, ← readAt_slot arg5 f5 1 _ inb_S4x128x128_S1x128x128_1_0_0,
    ← readAt_slot arg5 f5 0 _ inb_S4x128x128_S1x128x128_0_0_0]
  sl_unfold_words
  rfl

/-- Four slots stored, read at a slot. -/
theorem read_slots (f5 : BufTy.Contents (Elt Ideal) arg5.view.ty) (w : Fin 4 → FVec Ideal S1x128x128 .f32) (f : Fin 4) (r n : Fin 128) :
    arg5.view.read (Elt Ideal) (arg5.view.writes (Elt Ideal) f5 (slots w)) (ix3 f r n) = w f (ix3 0 r n) := by
  have hx : ∀ q : ℕ, (h : q < 4) → ∀ a : Fin 3, ((ix3 ⟨q, h⟩ r n : S4x128x128.Idx) a).val = (![q, 0, 0] : Fin 3 → ℕ) a + ((ix3 0 r n : S1x128x128.Idx) a).val := by
    intro q h a
    match a with
    | ⟨0, _⟩ => rfl
    | ⟨1, _⟩ => exact (Nat.zero_add _).symm
    | ⟨2, _⟩ => exact (Nat.zero_add _).symm
  unfold slots
  match f with
  | ⟨3, h⟩ => exact View.read_writes_cons_unit_of_mem _ _ _ _ _ _ _ rfl (hx 3 h)
  | ⟨2, h⟩ =>
    rw [View.read_writes_cons_unit_of_not_mem _ _ _ _ _ _ rfl 0 (Or.inl (show 2 < 3 by decide))]
    exact View.read_writes_cons_unit_of_mem _ _ _ _ _ _ _ rfl (hx 2 h)
  | ⟨1, h⟩ =>
    rw [View.read_writes_cons_unit_of_not_mem _ _ _ _ _ _ rfl 0 (Or.inl (show 1 < 3 by decide)),
      View.read_writes_cons_unit_of_not_mem _ _ _ _ _ _ rfl 0 (Or.inl (show 1 < 2 by decide))]
    exact View.read_writes_cons_unit_of_mem _ _ _ _ _ _ _ rfl (hx 1 h)
  | ⟨0, h⟩ =>
    rw [View.read_writes_cons_unit_of_not_mem _ _ _ _ _ _ rfl 0 (Or.inl (show 0 < 3 by decide)),
      View.read_writes_cons_unit_of_not_mem _ _ _ _ _ _ rfl 0 (Or.inl (show 0 < 2 by decide)),
      View.read_writes_cons_unit_of_not_mem _ _ _ _ _ _ rfl 0 (Or.inl (show 0 < 1 by decide))]
    exact View.read_writes_cons_unit_of_mem _ _ _ _ _ _ _ rfl (hx 0 h)

/-- The weight of field `f` in row `k` and word `n` of the planes `x2`, still divided by 4096. -/
def weightAt (x2 : IVec S3x7168x128 8) (f : Fin 4) (k : Fin 7168) (n : Fin 128) : EReal :=
  Ideal.ofBits .fp8e5m2 (carry (code f (x2 (ix3 0 k n)) (x2 (ix3 1 k n)) (x2 (ix3 2 k n))))

/-- One term of the product: activation times weight. -/
def term (x1 : FVec Ideal S128x7168 .bf16) (x2 : IVec S3x7168x128 8) (f : Fin 4) (r n : Fin 128) (k : ℕ) : EReal :=
  if h : k < 7168 then x1 (ix2 r ⟨k, h⟩) * weightAt x2 f ⟨k, h⟩ n else 0

theorem row_lt (k : Fin k0_t1_loop.trips) (j : Fin 1024) : 1024 * k.val + j.val < 7168 := by
  have h : k.val < 7 := by exact Nat.lt_of_lt_of_eq k.isLt trips_eq
  omega

theorem xChunk_apply (k : Fin k0_t1_loop.trips) (r : Fin 128) (j : Fin 1024) :
    xChunk arg1 X1 k (ix2 r j) = arg1.view.read (Elt Ideal) X1 (ix2 r ⟨1024 * k.val + j.val, row_lt k j⟩) := by
  refine congrArg (arg1.view.read (Elt Ideal) X1) (funext fun a => Fin.ext ?_)
  match a with
  | ⟨0, _⟩ => show k0_off4 k 0 + 1 * r.val = r.val; rw [off4_eq]; show 0 + 1 * r.val = r.val; omega
  | ⟨1, _⟩ => show k0_off4 k 1 + 1 * j.val = 1024 * k.val + j.val; rw [off4_eq]; show 1024 * k.val + 1 * j.val = _; omega

theorem p0Chunk_apply (k : Fin k0_t1_loop.trips) (j : Fin 1024) (n : Fin 128) :
    p0Chunk arg2 X2 k (ix3 0 j n) = arg2.view.read (Elt Ideal) X2 (ix3 0 ⟨1024 * k.val + j.val, row_lt k j⟩ n) := by
  refine congrArg (arg2.view.read (Elt Ideal) X2) (funext fun a => Fin.ext ?_)
  match a with
  | ⟨0, _⟩ => show k0_off1 k 0 + 1 * 0 = 0; rw [off1_eq]; rfl
  | ⟨1, _⟩ => show k0_off1 k 1 + 1 * j.val = 1024 * k.val + j.val; rw [off1_eq]; show 1024 * k.val + 1 * j.val = _; omega
  | ⟨2, _⟩ => show k0_off1 k 2 + 1 * n.val = n.val; rw [off1_eq]; show 0 + 1 * n.val = n.val; omega

theorem p1Chunk_apply (k : Fin k0_t1_loop.trips) (j : Fin 1024) (n : Fin 128) :
    p1Chunk arg2 X2 k (ix3 0 j n) = arg2.view.read (Elt Ideal) X2 (ix3 1 ⟨1024 * k.val + j.val, row_lt k j⟩ n) := by
  refine congrArg (arg2.view.read (Elt Ideal) X2) (funext fun a => Fin.ext ?_)
  match a with
  | ⟨0, _⟩ => show k0_off2 k 0 + 1 * 0 = 1; rw [off2_eq]; rfl
  | ⟨1, _⟩ => show k0_off2 k 1 + 1 * j.val = 1024 * k.val + j.val; rw [off2_eq]; show 1024 * k.val + 1 * j.val = _; omega
  | ⟨2, _⟩ => show k0_off2 k 2 + 1 * n.val = n.val; rw [off2_eq]; show 0 + 1 * n.val = n.val; omega

theorem p2Chunk_apply (k : Fin k0_t1_loop.trips) (j : Fin 1024) (n : Fin 128) :
    p2Chunk arg2 X2 k (ix3 0 j n) = arg2.view.read (Elt Ideal) X2 (ix3 2 ⟨1024 * k.val + j.val, row_lt k j⟩ n) := by
  refine congrArg (arg2.view.read (Elt Ideal) X2) (funext fun a => Fin.ext ?_)
  match a with
  | ⟨0, _⟩ => show k0_off3 k 0 + 1 * 0 = 2; rw [off3_eq]; rfl
  | ⟨1, _⟩ => show k0_off3 k 1 + 1 * j.val = 1024 * k.val + j.val; rw [off3_eq]; show 1024 * k.val + 1 * j.val = _; omega
  | ⟨2, _⟩ => show k0_off3 k 2 + 1 * n.val = n.val; rw [off3_eq]; show 0 + 1 * n.val = n.val; omega

/-- One trip, at a slot's element. -/
theorem read_trip (k : Fin k0_t1_loop.trips) (f5 : BufTy.Contents (Elt Ideal) arg5.view.ty) (f : Fin 4) (r n : Fin 128) :
    arg5.view.read (Elt Ideal) (arg5.view.writes (Elt Ideal) f5
        (tripL_k0_t1 (F := Ideal) 𝒱 c bd i arg1 harg1 arg2 harg2 arg3 harg3 arg4 harg4 arg5 harg5 X1 X2 k f5)) (ix3 f r n)
      = arg5.view.read (Elt Ideal) f5 (ix3 f r n)
        + ∑ j ∈ Finset.range 1024, term (arg1.view.read (Elt Ideal) X1) (arg2.view.read (Elt Ideal) X2) f r n (1024 * k.val + j) := by
  rw [trip_eq, read_slots, step_apply, slot_apply, Finset.sum_range]
  refine congrArg (arg5.view.read (Elt Ideal) f5 (ix3 f r n) + ·) (Finset.sum_congr rfl fun j _ => ?_)
  unfold term
  rw [dif_pos (row_lt k j), xChunk_apply]
  unfold wChunk weightAt
  rw [weights_apply, p0Chunk_apply, p1Chunk_apply, p2Chunk_apply]

/-- `k` trips, at a slot's element. -/
theorem read_trips (G : BufTy.Contents (Elt Ideal) arg5.view.ty) (f : Fin 4) (r n : Fin 128) :
    ∀ k : ℕ, k ≤ k0_t1_loop.trips →
    arg5.view.read (Elt Ideal) (arg5.view.writes (Elt Ideal) G
        (pb_k0_t1 (F := Ideal) 𝒱 c bd i arg1 harg1 arg2 harg2 arg3 harg3 arg4 harg4 arg5 harg5 X1 X2 G k)) (ix3 f r n)
      = arg5.view.read (Elt Ideal) G (ix3 f r n)
        + ∑ j ∈ Finset.range (1024 * k), term (arg1.view.read (Elt Ideal) X1) (arg2.view.read (Elt Ideal) X2) f r n j
  | 0, _ => by rw [pb_k0_t1.eq_1, Nat.mul_zero, Finset.sum_range_zero, add_zero]; rfl
  | k + 1, h => by
    have hs := pb_k0_t1_succ (F := Ideal) 𝒱 c bd i arg1 harg1 arg2 harg2 arg3 harg3 arg4 harg4 arg5 harg5 X1 X2 G ⟨k, h⟩
    rw [show k + 1 = (⟨k, h⟩ : Fin k0_t1_loop.trips).val + 1 from rfl, hs, View.writes_append, read_trip,
      read_trips G f r n k (Nat.le_of_succ_le h), add_assoc]
    refine congrArg (arg5.view.read (Elt Ideal) G (ix3 f r n) + ·) ?_
    show _ = ∑ j ∈ Finset.range (1024 * (k + 1)), _
    rw [Nat.mul_succ, Finset.sum_range_add]

end Cert.KernelIdeal.Hand
-- ==== Proof.Block.lean ====
module

public import proofs.«01_k».proof.Proof.Interleave
public import proofs.«01_k».proof.Proof.Loop

/-! # The block one grid point writes

A grid point takes 128 words of the byte planes, clears the accumulator, runs the loop, multiplies each slot by 4096 and by
its field's scales, and puts the four fields back in column order. -/

@[expose] public section

set_option maxRecDepth 16384

noncomputable section

namespace Cert.KernelIdeal.Hand
open Cert.KernelIdeal Cert.KernelIdeal.Gen Cert.Fp6 Idealize.ShloMosaic Idealize.ShloMosaic.TcCoe Idealize.SL.Sem Idealize.ShloMosaic.ValueIdx

/-- One field's finished part: the accumulated products times 4096, times the field's scales. -/
def finished (a : FVec Ideal S1x128x128 .f32) (s : FVec Ideal S1x1x128 .f32) : FVec Ideal S128x128 .f32 :=
  mulf (mulf (shapeCast S128x128 a shapeCasts_S1x128x128_S128x128) (broadcast S128x128 (Ideal.ofBits .f32 0x45800000#32)))
    (broadcastTo S128x128 (shapeCast S1x128 s shapeCasts_S1x1x128_S1x128) broadcasts_S1x128_S128x128)

theorem finished_apply (a : FVec Ideal S1x128x128 .f32) (s : FVec Ideal S1x1x128 .f32) (r n : Fin 128) :
    finished a s (ix2 r n) = a (ix3 0 r n) * Ideal.ofBits .f32 0x45800000#32 * s (ix3 0 0 n) := by
  have h1 : (shapeCast S128x128 a shapeCasts_S1x128x128_S128x128) (ix2 r n) = a (ix3 0 r n) := by
    rw [shapeCast_dropUnit_apply ![128, 128]]
    refine congrArg a (funext fun a => ?_)
    match a with
    | ⟨0, _⟩ => rfl
    | ⟨1, _⟩ => rfl
    | ⟨2, _⟩ => rfl
  have h2 : (broadcastTo S128x128 (shapeCast S1x128 s shapeCasts_S1x1x128_S1x128) broadcasts_S1x128_S128x128) (ix2 r n) = s (ix3 0 0 n) := by
    rw [broadcastTo_apply _ _ _ (ix2 0 n : S1x128.Idx) (fun a => by
      match a with
      | ⟨0, _⟩ => rfl
      | ⟨1, _⟩ => rfl)]
    rw [shapeCast_dropUnit_apply ![1, 128]]
    refine congrArg s (funext fun a => ?_)
    match a with
    | ⟨0, _⟩ => rfl
    | ⟨1, _⟩ => rfl
    | ⟨2, _⟩ => rfl
  exact congr (congrArg (fun (y z : EReal) => y * Ideal.ofBits .f32 0x45800000#32 * z) h1) h2

variable (c : Dev nD) (i : grid0.Coords)
  (arg1 : Memref sig .tc .vmem S128x7168 .bf16) (harg1 : arg1.IsWhole) (arg2 : Memref sig .tc .vmem S3x7168x128 .i8) (harg2 : arg2.IsWhole)
  (arg3 : Memref sig .tc .vmem S4x1x128 .f32) (harg3 : arg3.IsWhole) (arg4 : Memref sig .tc .vmem S128x512 .bf16) (harg4 : arg4.IsWhole)
  (arg5 : Memref sig .tc .vmem S4x128x128 .f32) (harg5 : arg5.IsWhole)
  (x0 : Vec Ideal S128x7168 .bf16) (x1 : Vec Ideal S3x7168x128 .i8) (x2 : Vec Ideal S4x1x128 .f32)

/-- The store that clears the accumulator. -/
def zeroPiece : View.Piece (Elt Ideal) S4x128x128 .f32 :=
  ⟨Rect.unit ![0, 0, 0] S4x128x128.size inb_S4x128x128_S4x128x128_0_0_0, k0_pay14 (F := Ideal)⟩

/-- The accumulator after the loop. -/
def accEnd : BufTy.Contents (Elt Ideal) arg5.view.ty :=
  arg5.view.writes (Elt Ideal) arg5.view.junk
    (pb_k0_t1 (F := Ideal) Variants.none c none i arg1 harg1 arg2 harg2 arg3 harg3 arg4 harg4 arg5 harg5 (harg1.unread x0) (harg2.unread x1)
      (arg5.view.writes (Elt Ideal) arg5.view.junk [zeroPiece])
      (Scf.trips k0_t1_loop.lb k0_t1_loop.ub k0_t1_loop.st)
      ++ [zeroPiece])

/-- A slot of the accumulator after the loop: the whole product of a field. -/
theorem accEnd_apply (f : Fin 4) (r n : Fin 128) :
    arg5.view.read (Elt Ideal) (accEnd c i arg1 harg1 arg2 harg2 arg3 harg3 arg4 harg4 arg5 harg5 x0 x1) (ix3 f r n)
      = ∑ k : Fin 7168, x0 (ix2 r k) * weightAt x1 f k n := by
  unfold accEnd
  have h0 : arg5.view.read (Elt Ideal) (arg5.view.writes (Elt Ideal) arg5.view.junk
      [zeroPiece]) (ix3 f r n) = (0 : EReal) := by
    unfold zeroPiece
    refine (View.read_writes_cons_unit_of_mem (Val := Elt Ideal) arg5.view arg5.view.junk inb_S4x128x128_S4x128x128_0_0_0 (k0_pay14 (F := Ideal)) [] (ix3 f r n) (ix3 f r n) rfl (fun a => by
      match a with
      | ⟨0, _⟩ => exact (Nat.zero_add _).symm
      | ⟨1, _⟩ => exact (Nat.zero_add _).symm
      | ⟨2, _⟩ => exact (Nat.zero_add _).symm)).trans ?_
    exact Ideal.ofBits_zero_f32
  rw [View.writes_append]
  have h := read_trips Variants.none c none i arg1 harg1 arg2 harg2 arg3 harg3 arg4 harg4 arg5 harg5 (harg1.unread x0) (harg2.unread x1)
    (arg5.view.writes (Elt Ideal) arg5.view.junk [zeroPiece]) f r n
    k0_t1_loop.trips le_rfl
  refine h.trans ?_
  rw [h0, zero_add, trips_eq, harg1.read_unread, harg2.read_unread, Finset.sum_range]
  refine Finset.sum_congr rfl fun k _ => ?_
  unfold term
  rw [dif_pos k.isLt]

/-- The scales of a field. -/
def scales (f : Fin 4) : FVec Ideal S1x1x128 .f32 := fun j => x2 (ix3 f 0 (j 2))

theorem readAt_scales (q : ℕ) (hq : q < 4) (inb : ∀ a, (![q, 0, 0] : Fin 3 → ℕ) a + S1x1x128.size a ≤ S4x1x128.size a) :
    View.readAt (Elt Ideal) arg3.view (Rect.unit (s := S4x1x128) ![q, 0, 0] S1x1x128.size inb).toLoadRect (harg3.unread x2) = scales x2 ⟨q, hq⟩ := by
  funext j
  refine (congrFun (harg3.read_unread x2) _).trans (congrArg x2 (funext fun a => Fin.ext ?_))
  match a with
  | ⟨0, _⟩ =>
    have h : (j 0).val < 1 := (j 0).isLt
    show q + 1 * (j 0).val = q
    omega
  | ⟨1, _⟩ =>
    have h : (j 1).val < 1 := (j 1).isLt
    show 0 + 1 * (j 1).val = 0
    omega
  | ⟨2, _⟩ => show 0 + 1 * (j 2).val = (j 2).val; omega

/-- The block as the four tiles of the four finished parts. -/
theorem block_eq :
    out0_A_3 (F := Ideal) c i arg1 harg1 arg2 harg2 arg3 harg3 arg4 harg4 arg5 harg5 x0 x1 x2
      = concatenate S128x512 1 (List.ofFn fun q : Fin 4 => (⟨S128x128, tile
          (finished (slot arg5 (accEnd c i arg1 harg1 arg2 harg2 arg3 harg3 arg4 harg4 arg5 harg5 x0 x1) ⟨0, by decide⟩) (scales x2 ⟨0, by decide⟩))
          (finished (slot arg5 (accEnd c i arg1 harg1 arg2 harg2 arg3 harg3 arg4 harg4 arg5 harg5 x0 x1) ⟨1, by decide⟩) (scales x2 ⟨1, by decide⟩))
          (finished (slot arg5 (accEnd c i arg1 harg1 arg2 harg2 arg3 harg3 arg4 harg4 arg5 harg5 x0 x1) ⟨2, by decide⟩) (scales x2 ⟨2, by decide⟩))
          (finished (slot arg5 (accEnd c i arg1 harg1 arg2 harg2 arg3 harg3 arg4 harg4 arg5 harg5 x0 x1) ⟨3, by decide⟩) (scales x2 ⟨3, by decide⟩))
          (colWord (BitVec.ofNat 32 (32 * q.val)))⟩ : (s : Shape) × (s.Idx → Ideal .bf16)))
          concatenates_S128x128_S128x128_S128x128_S128x128_S128x512_d1 := by
  rw [← readAt_slot arg5 _ 0 _ inb_S4x128x128_S1x128x128_0_0_0, ← readAt_slot arg5 _ 1 _ inb_S4x128x128_S1x128x128_1_0_0,
    ← readAt_slot arg5 _ 2 _ inb_S4x128x128_S1x128x128_2_0_0, ← readAt_slot arg5 _ 3 _ inb_S4x128x128_S1x128x128_3_0_0,
    ← readAt_scales arg3 harg3 x2 0 _ inb_S4x1x128_S1x1x128_0_0_0, ← readAt_scales arg3 harg3 x2 1 _ inb_S4x1x128_S1x1x128_1_0_0,
    ← readAt_scales arg3 harg3 x2 2 _ inb_S4x1x128_S1x1x128_2_0_0, ← readAt_scales arg3 harg3 x2 3 _ inb_S4x1x128_S1x1x128_3_0_0]
  unfold out0_A_3
  rw [View.read_writes_eq_canon _ _ _ (cover0_A_3 c i _ harg1 _ harg2 _ harg3 _ harg4 _ harg5 x0 x1 x2)]
  unfold kernelRun0_A
  dsimp only
  sl_unfold_words
  refine (View.canon_unit_zero (by funext a; match a with | ⟨0, _⟩ => rfl | ⟨1, _⟩ => rfl) _ _).trans ?_
  exact pay1_eq _ _ _ _ (k0_pay18 _ _) (k0_pay19 _ _) rfl rfl

/-- The block at row `r` and column `col`: field `col % 4`, word `col / 4`. -/
theorem block_apply (r : Fin 128) (col : Fin 512) :
    out0_A_3 (F := Ideal) c i arg1 harg1 arg2 harg2 arg3 harg3 arg4 harg4 arg5 harg5 x0 x1 x2 (ix2 r col)
      = (∑ k : Fin 7168, (x0 (ix2 r k) : EReal) * weightAt x1 ⟨col.val % 4, Nat.mod_lt _ (by decide)⟩ k ⟨col.val / 4, by omega⟩)
          * Ideal.ofBits .f32 0x45800000#32
          * (x2 (ix3 ⟨col.val % 4, Nat.mod_lt _ (by decide)⟩ 0 ⟨col.val / 4, by omega⟩) : EReal) := by
  rw [block_eq]
  refine (tiles_apply _ _ _ _ r col).trans ?_
  have hp : ∀ (f : Fin 4) (n : Fin 128), part
      (finished (slot arg5 (accEnd c i arg1 harg1 arg2 harg2 arg3 harg3 arg4 harg4 arg5 harg5 x0 x1) ⟨0, by decide⟩) (scales x2 ⟨0, by decide⟩))
      (finished (slot arg5 (accEnd c i arg1 harg1 arg2 harg2 arg3 harg3 arg4 harg4 arg5 harg5 x0 x1) ⟨1, by decide⟩) (scales x2 ⟨1, by decide⟩))
      (finished (slot arg5 (accEnd c i arg1 harg1 arg2 harg2 arg3 harg3 arg4 harg4 arg5 harg5 x0 x1) ⟨2, by decide⟩) (scales x2 ⟨2, by decide⟩))
      (finished (slot arg5 (accEnd c i arg1 harg1 arg2 harg2 arg3 harg3 arg4 harg4 arg5 harg5 x0 x1) ⟨3, by decide⟩) (scales x2 ⟨3, by decide⟩)) f (ix2 r n)
      = (∑ k : Fin 7168, (x0 (ix2 r k) : EReal) * weightAt x1 f k n) * Ideal.ofBits .f32 0x45800000#32 * (x2 (ix3 f 0 n) : EReal) := by
    intro f n
    have hf : part
      (finished (slot arg5 (accEnd c i arg1 harg1 arg2 harg2 arg3 harg3 arg4 harg4 arg5 harg5 x0 x1) ⟨0, by decide⟩) (scales x2 ⟨0, by decide⟩))
      (finished (slot arg5 (accEnd c i arg1 harg1 arg2 harg2 arg3 harg3 arg4 harg4 arg5 harg5 x0 x1) ⟨1, by decide⟩) (scales x2 ⟨1, by decide⟩))
      (finished (slot arg5 (accEnd c i arg1 harg1 arg2 harg2 arg3 harg3 arg4 harg4 arg5 harg5 x0 x1) ⟨2, by decide⟩) (scales x2 ⟨2, by decide⟩))
      (finished (slot arg5 (accEnd c i arg1 harg1 arg2 harg2 arg3 harg3 arg4 harg4 arg5 harg5 x0 x1) ⟨3, by decide⟩) (scales x2 ⟨3, by decide⟩)) f
      = finished (slot arg5 (accEnd c i arg1 harg1 arg2 harg2 arg3 harg3 arg4 harg4 arg5 harg5 x0 x1) f) (scales x2 f) := by
      match f with
      | ⟨0, _⟩ | ⟨1, _⟩ | ⟨2, _⟩ | ⟨3, _⟩ => rfl
    rw [hf, finished_apply, slot_apply, accEnd_apply]
    rfl
  exact hp _ _

end Cert.KernelIdeal.Hand
-- ==== Proof.Array.lean ====
module

public import proofs.«01_k».proof.Proof.Entry
public import proofs.«01_k».proof.Proof.Block
public import proofs.«01_k».proof.Proof.Gen.KernelIdeal.Value

/-! # The array the kernel writes

Grid point `t` writes columns `512 t` to `512 t + 511`.  Column `g` is field `g % 4` of word `g / 4`. -/

@[expose] public section

set_option maxRecDepth 16384

noncomputable section

namespace Cert.KernelIdeal.Hand
open Cert.KernelIdeal Cert.KernelIdeal.Gen Cert.Fp6 Idealize.ShloMosaic Idealize.ShloMosaic.TcCoe Idealize.SL.Sem Idealize.ShloMosaic.ValueIdx

/-- The result from the three arguments. -/
def result (a0 : Vec Ideal S128x1x7168 .bf16) (a1 : Vec Ideal S7168x2048x3 .i8) (a2 : Vec Ideal S8192 .f32) : Vec Ideal S128x8192 .bf16 :=
  fun i =>
    have hw : (i 1).val / 4 < 2048 := by have h : (i 1).val < 8192 := (i 1).isLt; omega
    ((∑ k : Fin 7168, (a0 (ix3 (i 0) 0 k) : EReal) * Ideal.ofBits .fp8e5m2 (carry (code ⟨(i 1).val % 4, Nat.mod_lt _ (by decide)⟩
        (a1 (ix3 k ⟨(i 1).val / 4, hw⟩ 0)) (a1 (ix3 k ⟨(i 1).val / 4, hw⟩ 1)) (a1 (ix3 k ⟨(i 1).val / 4, hw⟩ 2)))))
      * Ideal.ofBits .f32 0x45800000#32 * (a2 (ix1 (i 1)) : EReal) : EReal)

variable (m : (ℓ : Loc nD τ sig) → Buf (Elt Ideal) ℓ) (c : Dev nD)

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = t.val :=
  (by decide +kernel : ∀ t : Fin grid0.N, _)
theorem index2 : ∀ t : Fin cfg0.N, win0_2.index t (0 : Fin 3) = 0 ∧ win0_2.index t (1 : Fin 3) = 0 ∧ win0_2.index t (2 : Fin 3) = t.val :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)

theorem point_lt (t : Fin cfg0.N) : t.val < 16 := t.isLt

/-- The activations' block is the whole array. -/
theorem iblk0_apply (t : Fin cfg0.N) (r : Fin 128) (k : Fin 7168) :
    (iblk m c 0 t : Vec Ideal S128x7168 .bf16) (ix2 r k) = (m ((c : Thread nD τ).loc main_arg0) : Vec Ideal S128x1x7168 .bf16) (ix3 r 0 k) := by
  refine Eq.trans ?_ (acts_apply m c r k)
  obtain ⟨h0, h1⟩ := index0 t
  refine congrArg (V m c main_v4 : Vec Ideal S128x7168 .bf16) (funext fun a => Fin.ext ?_)
  match a with
  | ⟨0, _⟩ => show win0_0.index t (0 : Fin 2) * 128 + 1 * r.val = r.val; rw [h0]; omega
  | ⟨1, _⟩ => show win0_0.index t (1 : Fin 2) * 7168 + 1 * k.val = k.val; rw [h1]; omega

/-- The byte planes' block at point `t` is words `128 t` to `128 t + 127`. -/
theorem iblk1_apply (t : Fin cfg0.N) (p : Fin 3) (k : Fin 7168) (n : Fin 128) :
    (iblk m c 1 t : Vec Ideal S3x7168x128 .i8) (ix3 p k n)
      = (m ((c : Thread nD τ).loc main_arg1) : Vec Ideal S7168x2048x3 .i8) (ix3 k ⟨128 * t.val + n.val, by have := point_lt t; omega⟩ p) := by
  refine Eq.trans ?_ (planes_apply m c p k ⟨128 * t.val + n.val, by have := point_lt t; omega⟩)
  obtain ⟨h0, h1, h2⟩ := index1 t
  refine congrArg (V m c main_v0 : Vec Ideal S3x7168x2048 .i8) (funext fun a => Fin.ext ?_)
  match a with
  | ⟨0, _⟩ => show win0_1.index t (0 : Fin 3) * 3 + 1 * p.val = p.val; rw [h0]; omega
  | ⟨1, _⟩ => show win0_1.index t (1 : Fin 3) * 7168 + 1 * k.val = k.val; rw [h1]; omega
  | ⟨2, _⟩ => show win0_1.index t (2 : Fin 3) * 128 + 1 * n.val = 128 * t.val + n.val; rw [h2]; omega

/-- The scales' block at point `t`. -/
theorem iblk2_apply (t : Fin cfg0.N) (f : Fin 4) (n : Fin 128) :
    (iblk m c 2 t : Vec Ideal S4x1x128 .f32) (ix3 f 0 n)
      = (m ((c : Thread nD τ).loc main_arg2) : Vec Ideal S8192 .f32) (ix1 ⟨4 * (128 * t.val + n.val) + f.val, by have := point_lt t; omega⟩) := by
  refine Eq.trans ?_ (scale_apply m c f ⟨128 * t.val + n.val, by have := point_lt t; omega⟩)
  obtain ⟨h0, h1, h2⟩ := index2 t
  refine congrArg (V m c main_v3 : Vec Ideal S4x1x2048 .f32) (funext fun a => Fin.ext ?_)
  match a with
  | ⟨0, _⟩ => show win0_2.index t (0 : Fin 3) * 4 + 1 * f.val = f.val; rw [h0]; omega
  | ⟨1, _⟩ => show win0_2.index t (1 : Fin 3) * 1 + 1 * 0 = 0; rw [h1]
  | ⟨2, _⟩ => show win0_2.index t (2 : Fin 3) * 128 + 1 * n.val = 128 * t.val + n.val; rw [h2]; omega

/-- What point `t` writes back is its block of the result. -/
theorem flushed_eq (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Cert.KernelIdeal.Value.flushed3_A]
  have ht := point_lt t
  obtain ⟨h0, h1⟩ := index3 t
  funext j
  obtain ⟨r, col, rfl⟩ : ∃ (r : Fin 128) (col : Fin 512), j = (ix2 r col : S128x512.Idx) := ⟨j 0, j 1, eq_ix2 j⟩
  have he : ((cfg0.win 3).blk t).view.emb (ix2 r col : S128x512.Idx) = (ix2 r ⟨512 * t.val + col.val, by omega⟩ : S128x8192.Idx) := by
    funext a; apply Fin.ext
    match a with
    | ⟨0, _⟩ => show win0_3.index t (0 : Fin 2) * 128 + 1 * r.val = r.val; rw [h0]; omega
    | ⟨1, _⟩ => show win0_3.index t (1 : Fin 2) * 512 + 1 * col.val = 512 * t.val + col.val; rw [h1]; omega
  show out0_A_3 c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (iblk m c 2 t) (ix2 r col : S128x512.Idx)
    = result _ _ _ (((cfg0.win 3).blk t).view.emb (ix2 r col : S128x512.Idx))
  rw [he, block_apply]
  have ef : (⟨col.val % 4, Nat.mod_lt _ (by decide)⟩ : Fin 4) = ⟨(512 * t.val + col.val) % 4, Nat.mod_lt _ (by decide)⟩ := Fin.ext (by show col.val % 4 = (512 * t.val + col.val) % 4; omega)
  have ew : 128 * t.val + col.val / 4 = (512 * t.val + col.val) / 4 := by omega
  have eg : 4 * (128 * t.val + col.val / 4) + col.val % 4 = 512 * t.val + col.val := by omega
  refine congr (congrArg (fun (y z : EReal) => y * Ideal.ofBits .f32 0x45800000#32 * z) (Finset.sum_congr rfl fun k _ => ?_)) ?_
  · unfold weightAt
    rw [iblk0_apply, iblk1_apply, iblk1_apply, iblk1_apply, ef]
    simp only [ew]
  · rw [iblk2_apply]
    refine congrArg (m ((c : Thread nD τ).loc main_arg2) : Vec Ideal S8192 .f32) (funext fun a => Fin.ext ?_)
    match a with
    | ⟨0, _⟩ => exact eg

/-- The array ends holding the result. -/
theorem final : (dats m 0 c).arrAt 3 cfg0.N
    = result (m ((c : Thread nD τ).loc main_arg0)) (m ((c : Thread nD τ).loc main_arg1)) (m ((c : Thread nD τ).loc main_arg2)) :=
  (dats m 0 c).arrAt_eq_of_cover 3 _ (fun t _ => flushed_eq m c t) fun i => by
    have h0 : (i 0 : Nat) < 128 := (i 0).isLt
    have h1 : (i 1 : Nat) < 8192 := (i 1).isLt
    have hN : (i 1 : Nat) / 512 < cfg0.N := by show _ < 16; omega
    refine ⟨⟨(i 1 : Nat) / 512, hN⟩, flush0_3 _, ?_⟩
    obtain ⟨e0, e1⟩ := index3 ⟨(i 1 : Nat) / 512, hN⟩
    show i ∈ ((View.whole main_v5).slice (win0_3.rect ⟨(i 1 : Nat) / 512, hN⟩)).set
    rw [View.set_slice_whole, Rect.mem_set_unit]
    intro a
    match a with
    | ⟨0, _⟩ =>
      show win0_3.index ⟨(i 1 : Nat) / 512, hN⟩ (0 : Fin 2) * 128 ≤ (i 0 : Nat) ∧ (i 0 : Nat) < win0_3.index ⟨(i 1 : Nat) / 512, hN⟩ (0 : Fin 2) * 128 + 128
      rw [e0]; omega
    | ⟨1, _⟩ =>
      show win0_3.index ⟨(i 1 : Nat) / 512, hN⟩ (1 : Fin 2) * 512 ≤ (i 1 : Nat) ∧ (i 1 : Nat) < win0_3.index ⟨(i 1 : Nat) / 512, hN⟩ (1 : Fin 2) * 512 + 512
      rw [e1]; show (i 1 : Nat) / 512 * 512 ≤ (i 1 : Nat) ∧ (i 1 : Nat) < (i 1 : Nat) / 512 * 512 + 512; omega

end Cert.KernelIdeal.Hand
-- ==== Proof.Decode.lean ====
/-
  What a six-bit code is worth. The host decodes the code arithmetically (`decode`); the kernel reads the byte that carries the
  code as an eight-bit float (five exponent bits, two fraction bits), whose value is the decoded one divided by 4096, the
  difference of the two exponent biases being twelve (`carry_value`: all 64 codes).
-/
module

public import proofs.«01_k».proof.Proof.Codes
public import Idealize.ShloMosaic.PureOps.Ideal.Laws

@[expose] public section

noncomputable section

namespace Cert.Fp6

open Idealize.ShloMosaic

/-- The host's arithmetic decode of a code, operation by operation. -/
def decode (c : BitVec 32) : EReal :=
  ((IntOp.subi 1#32 (IntOp.muli 2#32 (IntOp.shrui .host c 5#32))).toInt : ℝ) *
    Scalar.select (IntOp.cmpi .eq (IntOp.andi (IntOp.shrui .host c 2#32) 7#32) 0#32)
      ((((IntOp.andi c 3#32).toNat : ℝ) : EReal) * Ideal.ofBits .f32 0x3D800000#32)
      ((Ideal.ofBits .f32 0x40800000#32 + (((IntOp.andi c 3#32).toNat : ℝ) : EReal)) *
        (((IntOp.shli .host 1#32 (IntOp.andi (IntOp.shrui .host c 2#32) 7#32)).toInt : ℝ) : EReal) *
        Ideal.ofBits .f32 0x3D000000#32)

/-- The kernel's scale constant, 4096. -/
theorem scale_bits : Ideal.ofBits .f32 0x45800000#32 = ((4096 : ℝ) : EReal) := by
  simp [Ideal.ofBits, Ideal.ieee, -EReal.coe_mul]; norm_num

/-- The fields of the byte that carries code `n`: the sign, the exponent and the fraction of the code. -/
theorem carry_fields (n : Fin 64) :
    ((carry (BitVec.ofNat 8 n.val)).extractLsb' (5 + 2) 1 == 1#1) = decide (n.val / 32 = 1)
    ∧ ((carry (BitVec.ofNat 8 n.val)).extractLsb' 2 5).toNat = n.val / 4 % 8
    ∧ ((carry (BitVec.ofNat 8 n.val)).extractLsb' 0 2).toNat = n.val % 4 := by
  revert n; decide

/-- The same fields as the host cuts them out. -/
theorem decode_fields (n : Fin 64) :
    (IntOp.subi 1#32 (IntOp.muli 2#32 (IntOp.shrui .host (BitVec.ofNat 32 n.val) 5#32))).toInt = (if n.val / 32 = 1 then -1 else 1)
    ∧ IntOp.cmpi .eq (IntOp.andi (IntOp.shrui .host (BitVec.ofNat 32 n.val) 2#32) 7#32) 0#32 = BitVec.ofBool (decide (n.val / 4 % 8 = 0))
    ∧ (IntOp.andi (BitVec.ofNat 32 n.val) 3#32).toNat = n.val % 4
    ∧ (IntOp.shli .host 1#32 (IntOp.andi (IntOp.shrui .host (BitVec.ofNat 32 n.val) 2#32) 7#32)).toInt = 2 ^ (n.val / 4 % 8) := by
  have r5 : ∀ w : BitVec 32, IntOp.shrui .host w 5#32 = w >>> 5 := fun w => (shrui_unit ..).trans (shrui_lit w 5 (by decide))
  have r2 : ∀ w : BitVec 32, IntOp.shrui .host w 2#32 = w >>> 2 := fun w => (shrui_unit ..).trans (shrui_lit w 2 (by decide))
  have hl : IntOp.shli .host 1#32 (IntOp.andi (IntOp.shrui .host (BitVec.ofNat 32 n.val) 2#32) 7#32) = 1#32 <<< (n.val / 4 % 8) := by
    have e : IntOp.andi (IntOp.shrui .host (BitVec.ofNat 32 n.val) 2#32) 7#32 = BitVec.ofNat 32 (n.val / 4 % 8) := by
      rw [r2]; revert n; decide
    rw [e]
    exact (shli_unit ..).trans (shli_lit _ _ (by omega))
  rw [hl, r5, r2]
  revert n; decide

/-- The value of the byte that carries code `n`, as a real number. -/
def worth (n : ℕ) : ℝ :=
  (if n / 32 = 1 then -1 else 1) * (if n / 4 % 8 = 0 then ((n % 4 : ℕ) : ℝ) * 2 ^ (-16 : ℤ) else ((4 + n % 4 : ℕ) : ℝ) * 2 ^ (((n / 4 % 8 : ℕ) : ℤ) - 17))

theorem carry_worth (n : Fin 64) : Ideal.ofBits .fp8e5m2 (carry (BitVec.ofNat 8 n.val)) = ((worth n.val : ℝ) : EReal) := by
  obtain ⟨hs, he, hf⟩ := carry_fields n
  simp only [Ideal.ofBits, Ideal.ieee, hs, he, hf, worth]
  rw [if_neg (by omega)]
  split
  · norm_num [mul_assoc]
  · congr 1
    simp only [mul_assoc, decide_eq_true_eq]
    norm_num [sub_sub]

/-- The byte that carries a code is worth the code's decoded value divided by 4096. -/
theorem decode_worth (n : Fin 64) : decode (BitVec.ofNat 32 n.val) = ((worth n.val * 4096 : ℝ) : EReal) := by
  have h4 : Ideal.ofBits .f32 0x40800000#32 = ((4 : ℝ) : EReal) := by
    simp [Ideal.ofBits, Ideal.ieee, -EReal.coe_mul]; norm_num
  have h16 : Ideal.ofBits .f32 0x3D800000#32 = ((1 / 16 : ℝ) : EReal) := by
    simp [Ideal.ofBits, Ideal.ieee, -EReal.coe_mul]; norm_num
  have h32 : Ideal.ofBits .f32 0x3D000000#32 = ((1 / 32 : ℝ) : EReal) := by
    simp [Ideal.ofBits, Ideal.ieee, -EReal.coe_mul]; norm_num
  obtain ⟨hs, he, hf, hp⟩ := decode_fields n
  simp only [decode, hs, he, hf, hp, h4, h16, h32, worth, Scalar.select]
  have hlt : n.val / 4 % 8 < 8 := by omega
  generalize n.val / 4 % 8 = e at hlt
  generalize n.val % 4 = a
  have hp2 : (((2 ^ e : ℤ) : ℝ)) = (2 : ℝ) ^ e := by push_cast; rfl
  rw [hp2, ← EReal.coe_mul, ← EReal.coe_add, ← EReal.coe_mul, ← EReal.coe_mul]
  by_cases hsn : n.val / 32 = 1 <;> by_cases h0 : e = 0
  all_goals
    simp only [hsn, h0, decide_true, decide_false, if_true, if_false, BitVec.ofBool_true, BitVec.ofBool_false]
  · rw [← EReal.coe_mul]
    congr 1; norm_num [mul_assoc]
  · rw [if_neg (c := (0 : BitVec 1) = 1) (by decide), ← EReal.coe_mul]
    congr 1
    interval_cases e <;> norm_num [mul_assoc] <;> ring
  · rw [← EReal.coe_mul]
    congr 1; norm_num [mul_assoc]
  · rw [if_neg (c := (0 : BitVec 1) = 1) (by decide), ← EReal.coe_mul]
    congr 1
    interval_cases e <;> norm_num [mul_assoc] <;> ring

end Cert.Fp6
-- ==== Proof.Reference.lean ====
module

public import proofs.«01_k».proof.Proof.Codes
public import proofs.«01_k».proof.Proof.Decode
public import proofs.«01_k».proof.Proof.Gen.ReferenceIdeal.Read
public import Idealize.ShloMosaic.Lib.ValueIdx

/-! # The reference, read at one element

Three bytes make a 24-bit word; field `f` of it is a six-bit code; the code's decoded value is a weight. -/

@[expose] public section

set_option maxRecDepth 16384

noncomputable section

namespace Cert.ReferenceIdeal.Hand
open Cert.ReferenceIdeal Cert.ReferenceIdeal.Gen Cert.ReferenceIdeal.Read Cert.Fp6 Idealize.ShloMosaic Idealize.SL.Sem Idealize.ShloMosaic.ValueIdx

variable (x0 : Vec Ideal S128x1x7168 .bf16) (x1 : Vec Ideal S7168x2048x3 .i8) (x2 : Vec Ideal S8192 .f32)

/-- Byte plane 0 of the packed weights, widened. -/
theorem plane0_apply (k : Fin 7168) (w : Fin 2048) : val_main_v2 (F := Ideal) x1 (ix2 k w) = (x1 (ix3 k w 0)).setWidth 32 := by
  rw [val_main_v2_apply, val_main_v1_apply, val_main_v0_apply]
  refine congrArg (fun i => (x1 i).setWidth 32) (funext fun a => Fin.ext ?_)
  match a with
  | ⟨0, _⟩ => show (k.val * 2048 + w.val) / 2048 = k.val; omega
  | ⟨1, _⟩ => show (k.val * 2048 + w.val) / 1 % 2048 = w.val; omega
  | ⟨2, _⟩ => rfl

/-- Byte plane 1. -/
theorem plane1_apply (k : Fin 7168) (w : Fin 2048) : val_main_v4 (F := Ideal) x1 (ix2 k w) = (x1 (ix3 k w 1)).setWidth 32 := by
  rw [val_main_v4_apply, val_main_v3_apply, val_main_v0_apply]
  refine congrArg (fun i => (x1 i).setWidth 32) (funext fun a => Fin.ext ?_)
  match a with
  | ⟨0, _⟩ => show (k.val * 2048 + w.val) / 2048 = k.val; omega
  | ⟨1, _⟩ => show (k.val * 2048 + w.val) / 1 % 2048 = w.val; omega
  | ⟨2, _⟩ => rfl

/-- Byte plane 2. -/
theorem plane2_apply (k : Fin 7168) (w : Fin 2048) : val_main_v9 (F := Ideal) x1 (ix2 k w) = (x1 (ix3 k w 2)).setWidth 32 := by
  rw [val_main_v9_apply, val_main_v8_apply, val_main_v0_apply]
  refine congrArg (fun i => (x1 i).setWidth 32) (funext fun a => Fin.ext ?_)
  match a with
  | ⟨0, _⟩ => show (k.val * 2048 + w.val) / 2048 = k.val; omega
  | ⟨1, _⟩ => show (k.val * 2048 + w.val) / 1 % 2048 = w.val; omega
  | ⟨2, _⟩ => rfl

/-- The 24-bit word. -/
theorem word_apply (k : Fin 7168) (w : Fin 2048) :
    val_main_v12 (F := Ideal) x1 (ix2 k w) = triple (x1 (ix3 k w 0)) (x1 (ix3 k w 1)) (x1 (ix3 k w 2)) := by
  rw [triple, ← plane0_apply, ← plane1_apply, ← plane2_apply]
  rfl

/-- The code of field `f`, as the reference holds it. -/
def codeAt (f : Fin 4) (k : Fin 7168) (w : Fin 2048) : BitVec 8 := code f (x1 (ix3 k w 0)) (x1 (ix3 k w 1)) (x1 (ix3 k w 2))

/-- The reference's word shifted to field `f` and masked is the code of field `f`. -/
theorem masked (f : Fin 4) (k : Fin 7168) (w : Fin 2048) :
    IntOp.andi (IntOp.shrui .host (val_main_v12 (F := Ideal) x1 (ix2 k w)) (BitVec.ofNat 32 (6 * f.val))) 63#32
      = (codeAt x1 f k w).setWidth 32 := by
  rw [word_apply, triple_code, codeAt]

theorem weight0_apply (k : Fin 7168) (w : Fin 2048) : val_main_v47 (F := Ideal) x1 (ix2 k w) = decode ((codeAt x1 0 k w).setWidth 32) := by
  rw [← masked]; rfl
theorem weight1_apply (k : Fin 7168) (w : Fin 2048) : val_main_v83 (F := Ideal) x1 (ix2 k w) = decode ((codeAt x1 1 k w).setWidth 32) := by
  rw [← masked]; rfl
theorem weight2_apply (k : Fin 7168) (w : Fin 2048) : val_main_v119 (F := Ideal) x1 (ix2 k w) = decode ((codeAt x1 2 k w).setWidth 32) := by
  rw [← masked]; rfl
theorem weight3_apply (k : Fin 7168) (w : Fin 2048) : val_main_v155 (F := Ideal) x1 (ix2 k w) = decode ((codeAt x1 3 k w).setWidth 32) := by
  rw [← masked]; rfl

/-- One output before its scale: row `r`, field `f` of word `w`. -/
def dot (f : Fin 4) (r : Fin 128) (w : Fin 2048) : EReal :=
  ∑ k : Fin 7168, (x0 (ix3 r 0 k) : EReal) * decode ((codeAt x1 f k w).setWidth 32)

theorem lidx_eq (r : Fin 128) (w : Fin 2048) (k : Fin 7168) : lidx_main_v48 (ix3 r 0 w) k = ix3 r 0 k := by
  funext a; match a with | ⟨0, _⟩ => rfl | ⟨1, _⟩ => rfl | ⟨2, _⟩ => rfl
theorem ridx_eq (r : Fin 128) (w : Fin 2048) (k : Fin 7168) : ridx_main_v48 (ix3 r 0 w) k = ix2 k w := by
  funext a; match a with | ⟨0, _⟩ => rfl | ⟨1, _⟩ => rfl

theorem dot0_apply (r : Fin 128) (w : Fin 2048) : val_main_v48 (F := Ideal) x0 x1 (ix3 r 0 w) = dot x0 x1 0 r w := by
  refine (val_main_v48_apply x0 x1 _).trans (Finset.sum_congr rfl fun k _ => ?_)
  rw [lidx_eq, ridx_eq, weight0_apply]
theorem dot1_apply (r : Fin 128) (w : Fin 2048) : val_main_v84 (F := Ideal) x0 x1 (ix3 r 0 w) = dot x0 x1 1 r w := by
  refine (val_main_v84_apply x0 x1 _).trans (Finset.sum_congr rfl fun k _ => ?_)
  rw [show lidx_main_v84 (ix3 r 0 w) k = ix3 r 0 k from lidx_eq r w k, show ridx_main_v84 (ix3 r 0 w) k = ix2 k w from ridx_eq r w k, weight1_apply]
theorem dot2_apply (r : Fin 128) (w : Fin 2048) : val_main_v120 (F := Ideal) x0 x1 (ix3 r 0 w) = dot x0 x1 2 r w := by
  refine (val_main_v120_apply x0 x1 _).trans (Finset.sum_congr rfl fun k _ => ?_)
  rw [show lidx_main_v120 (ix3 r 0 w) k = ix3 r 0 k from lidx_eq r w k, show ridx_main_v120 (ix3 r 0 w) k = ix2 k w from ridx_eq r w k, weight2_apply]
theorem dot3_apply (r : Fin 128) (w : Fin 2048) : val_main_v156 (F := Ideal) x0 x1 (ix3 r 0 w) = dot x0 x1 3 r w := by
  refine (val_main_v156_apply x0 x1 _).trans (Finset.sum_congr rfl fun k _ => ?_)
  rw [show lidx_main_v156 (ix3 r 0 w) k = ix3 r 0 k from lidx_eq r w k, show ridx_main_v156 (ix3 r 0 w) k = ix2 k w from ridx_eq r w k, weight3_apply]

/-- The four fields' outputs, each with a last axis of extent one. -/
def fields (f : Fin 4) : FVec Ideal S128x1x2048x1 .f32 :=
  match f with
  | 0 => val_main_v157 (F := Ideal) x0 x1
  | 1 => val_main_v158 (F := Ideal) x0 x1
  | 2 => val_main_v159 (F := Ideal) x0 x1
  | 3 => val_main_v160 (F := Ideal) x0 x1

theorem fields_apply (f : Fin 4) (r : Fin 128) (w : Fin 2048) : fields x0 x1 f (ix4 r 0 w 0) = dot x0 x1 f r w := by
  have e : idx_main_v157 (ix4 r 0 w 0) = ix3 r 0 w := by
    funext a; match a with | ⟨0, _⟩ => rfl | ⟨1, _⟩ => rfl | ⟨2, _⟩ => rfl
  match f with
  | 0 => exact (val_main_v157_apply x0 x1 _).trans ((congrArg (val_main_v48 (F := Ideal) x0 x1) e).trans (dot0_apply x0 x1 r w))
  | 1 => exact (val_main_v158_apply x0 x1 _).trans ((congrArg (val_main_v84 (F := Ideal) x0 x1) e).trans (dot1_apply x0 x1 r w))
  | 2 => exact (val_main_v159_apply x0 x1 _).trans ((congrArg (val_main_v120 (F := Ideal) x0 x1) e).trans (dot2_apply x0 x1 r w))
  | 3 => exact (val_main_v160_apply x0 x1 _).trans ((congrArg (val_main_v156 (F := Ideal) x0 x1) e).trans (dot3_apply x0 x1 r w))

/-- The fields side by side on the last axis. -/
theorem stacked_apply (r : Fin 128) (w : Fin 2048) (f : Fin 4) : val_main_v161 (F := Ideal) x0 x1 (ix4 r 0 w f) = dot x0 x1 f r w := by
  refine Eq.trans ?_ (fields_apply x0 x1 f r w)
  refine (concatenate_ofFn_unit_apply (s₁ := S128x1x2048x1) (t := S128x1x2048x4) 3 (fields x0 x1) concatenates_S128x1x2048x1_S128x1x2048x1_S128x1x2048x1_S128x1x2048x1_S128x1x2048x4_d3 rfl rfl (ix4 r 0 w f) f rfl (ix4 r 0 w 0) (fun b hb => ?_))
  match b, hb with
  | ⟨0, _⟩, _ => rfl
  | ⟨1, _⟩, _ => rfl
  | ⟨2, _⟩, _ => rfl
  | ⟨3, _⟩, hb => exact absurd rfl hb

/-- The reference's result: column `g` is field `g % 4` of word `g / 4`, times the column's scale. -/
theorem value_apply (r : Fin 128) (g : Fin 8192) : val_main_v167 (F := Ideal) x0 x1 x2 (ix2 r g)
    = dot x0 x1 ⟨g.val % 4, Nat.mod_lt _ (by decide)⟩ r ⟨g.val / 4, by omega⟩ * (x2 (ix1 g) : EReal) := by
  have e : idx_main_v167 (ix2 r g) = ix3 r 0 g := by
    funext a; apply Fin.ext
    match a with
    | ⟨0, _⟩ => show (r.val * 8192 + g.val) / 8192 = r.val; omega
    | ⟨1, _⟩ => rfl
    | ⟨2, _⟩ => show (r.val * 8192 + g.val) % 8192 = g.val; omega
  have e' : idx_main_v162 (ix3 r 0 g) = ix4 r 0 ⟨g.val / 4, by omega⟩ ⟨g.val % 4, Nat.mod_lt _ (by decide)⟩ := by
    funext a; apply Fin.ext
    match a with
    | ⟨0, _⟩ => show ((r.val * 1 + 0) * 8192 + g.val) / 8192 = r.val; omega
    | ⟨1, _⟩ => rfl
    | ⟨2, _⟩ => show ((r.val * 1 + 0) * 8192 + g.val) / 4 % 2048 = g.val / 4; omega
    | ⟨3, _⟩ => show ((r.val * 1 + 0) * 8192 + g.val) % 4 = g.val % 4; omega
  rw [val_main_v167_apply, e]
  show (val_main_v162 (F := Ideal) x0 x1 (ix3 r 0 g) : EReal) * (val_main_v164 (F := Ideal) x2 (ix3 r 0 g) : EReal) = _
  rw [val_main_v162_apply, e', stacked_apply, val_main_v164_apply, val_main_v163_apply]
  refine congrArg (fun i => dot x0 x1 _ r _ * (x2 i : EReal)) (funext fun a => ?_)
  match a with | ⟨0, _⟩ => rfl

end Cert.ReferenceIdeal.Hand
-- ==== Proof.Equation.lean ====
module

public import proofs.«01_k».proof.Proof.Array
public import proofs.«01_k».proof.Proof.Reference

/-! # The two results are equal

The kernel's weight is the decoded value over 4096, and it multiplies the sum by 4096 once at the end.
A positive real distributes over any sum of extended reals. -/

@[expose] public section

set_option maxRecDepth 16384

noncomputable section

namespace Cert.Fp6
open Idealize.ShloMosaic Idealize.ShloMosaic.ValueIdx

/-- A finite factor that is not negative goes inside a sum. -/
theorem sum_mul_real {ι : Type} (s : Finset ι) (y : ι → EReal) (c : ℝ) (hc : 0 ≤ c) : (∑ k ∈ s, y k) * (c : EReal) = ∑ k ∈ s, y k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The reference's weight is the kernel's times 4096. -/
theorem decode_carry (b : BitVec 8) (hb : b.toNat < 64) :
    decode (b.setWidth 32) = Ideal.ofBits .fp8e5m2 (carry b) * Ideal.ofBits .f32 0x45800000#32 := by
  have e8 : b = BitVec.ofNat 8 (⟨b.toNat, hb⟩ : Fin 64).val := by simp
  have e32 : b.setWidth 32 = BitVec.ofNat 32 (⟨b.toNat, hb⟩ : Fin 64).val := by
    apply BitVec.eq_of_toNat_eq
    simp
  rw [e32, decode_worth, scale_bits, EReal.coe_mul, ← carry_worth ⟨b.toNat, hb⟩, ← e8]

/-- The kernel's result is the reference's. -/
theorem result_eq (a0 : Vec Ideal KernelIdeal.S128x1x7168 .bf16) (a1 : Vec Ideal KernelIdeal.S7168x2048x3 .i8) (a2 : Vec Ideal KernelIdeal.S8192 .f32) :
    KernelIdeal.Hand.result a0 a1 a2 = ReferenceIdeal.Read.val_main_v167 (F := Ideal) a0 a1 a2 := by
  funext i
  obtain ⟨r, g, rfl⟩ : ∃ (r : Fin 128) (g : Fin 8192), i = (ix2 r g : KernelIdeal.S128x8192.Idx) := ⟨i 0, i 1, eq_ix2 i⟩
  refine Eq.trans ?_ (ReferenceIdeal.Hand.value_apply a0 a1 a2 r g).symm
  unfold ReferenceIdeal.Hand.dot
  refine congrArg (fun y : EReal => y * (a2 (ix1 g) : EReal)) ?_
  rw [scale_bits, sum_mul_real _ _ _ (by norm_num)]
  refine Finset.sum_congr rfl fun k _ => ?_
  refine Eq.trans (mul_assoc _ _ _) (congrArg (fun y : EReal => (a0 (ix3 r 0 k) : EReal) * y) ?_)
  refine Eq.trans ?_ (decode_carry _ (code_lt _ _ _ _)).symm
  rw [scale_bits]

end Cert.Fp6
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Read
public import proofs.«01_k».proof.Proof.Gen.KernelIdeal.Value
public import proofs.«01_k».proof.Proof.Equation

@[expose] public section

noncomputable section

namespace Cert.Proof

open Idealize.ShloMosaic Idealize.SL.Sem Cert.Kernel

/-- The reference keeps its arguments, and it has no semaphore. -/
theorem frame_reference : Cert.quiescent_ReferenceIdeal (hReferenceIdeal := Cert.ReferenceIdeal.Gen.facts) := by
  intro m g _
  exact (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m g)

/-- Both programs run, and from equal arguments the results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.result (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · exact (θ_run (Cert.KernelIdeal.defs (F := Ideal)) _ _).mono
      (fun _ h c => ⟨(h c).1.trans (Cert.KernelIdeal.Hand.final m c), (h c).2⟩) (Cert.KernelIdeal.Value.run_blocks (F := Ideal) m g)
  · refine (θ_run (Cert.ReferenceIdeal.defs (F := Ideal)) _ _).mono (fun _ h c => ⟨(h c).1.trans ?_, (h c).2⟩)
      (Cert.ReferenceIdeal.Value.run (F := Ideal) m' g')
    refine (Cert.ReferenceIdeal.Read.val_main_v167_eq (F := Ideal) (Idealize.ShloMosaic.StableHlo.launchContents m' c)).trans ?_
    obtain ⟨h0, h1, h2⟩ := hargs c
    refine Eq.trans ?_ (Cert.Fp6.result_eq _ _ _).symm
    rw [← h0, ← h1, ← h2]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
